-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_actions_in_range [hPre_actions_in_range : Cert.Pre_actions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_actions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_actions_in_range [hPre_actions_in_range : Cert.Pre_actions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_actions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_actions_in_range [hKernelIdeal : Cert.KernelIdeal.Facts] [hPre_actions_in_range : Cert.Pre_actions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_actions_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_actions_in_range [hReferenceIdeal : Cert.ReferenceIdeal.Facts] [hPre_actions_in_range : Cert.Pre_actions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_actions_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_actions_in_range [hKernelIdeal : Cert.KernelIdeal.Facts] [hReferenceIdeal : Cert.ReferenceIdeal.Facts] [hPre_actions_in_range : Cert.Pre_actions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_actions_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_actions_in_range : Cert.Pre_actions_in_range.Facts),
    quiescent_Kernel (hKernel := hKernel)
    ∧ quiescent_KernelIdeal (hKernelIdeal := hKernelIdeal)
    ∧ quiescent_KernelIdeal_pre_actions_in_range (hKernelIdeal := hKernelIdeal) (hPre_actions_in_range := hPre_actions_in_range)
    ∧ quiescent_ReferenceIdeal (hReferenceIdeal := hReferenceIdeal)
    ∧ quiescent_ReferenceIdeal_pre_actions_in_range (hReferenceIdeal := hReferenceIdeal) (hPre_actions_in_range := hPre_actions_in_range)
    ∧ preserves_Kernel_KernelIdeal
    ∧ algebraic_KernelIdeal_ReferenceIdeal_pre_actions_in_range (hKernelIdeal := hKernelIdeal) (hReferenceIdeal := hReferenceIdeal) (hPre_actions_in_range := hPre_actions_in_range)
-- ==== Pre_actions_in_range.lean ====
abbrev S512x1024x64 : Shape := ⟨3, ![512, 1024, 64]⟩
abbrev S1024 : Shape := ⟨1, ![1024]⟩
abbrev S64x64 : Shape := ⟨2, ![64, 64]⟩
abbrev S64 : Shape := ⟨1, ![64]⟩
abbrev S64x32 : Shape := ⟨2, ![64, 32]⟩
abbrev S32 : Shape := ⟨1, ![32]⟩
abbrev S512x1024 : Shape := ⟨2, ![512, 1024]⟩
abbrev S_ : Shape := ⟨0, ![]⟩

class Facts : Prop where
  bcast_S_S512x1024 : S_.BroadcastsInDim S512x1024 (![] : Fin 0 → Fin S512x1024.rank)

variable [Facts]

def fn {F : FTy → Type} [FloatOps F] (main_arg0 : FVec F S512x1024x64 .f32) (main_arg1 : FVec F S1024 .f32) (main_arg2 : FVec F S64x64 .f32) (main_arg3 : FVec F S64 .f32) (main_arg4 : FVec F S64x32 .f32) (main_arg5 : FVec F S32 .f32) (main_arg6 : FVec F S64x64 .f32) (main_arg7 : FVec F S64 .f32) (main_arg8 : FVec F S64x32 .f32) (main_arg9 : FVec F S32 .f32) (main_arg10 : IVec S512x1024 32) (main_arg11 : IVec S1024 32) : IVec S512x1024 1 :=
  let main_c : IVec S_ 32 := constantI S_ 32 0#32
  let main_v0 : IVec S512x1024 32 := broadcastInDim S512x1024 ![] bcast_S_S512x1024 main_c
  let main_v1 : IVec S512x1024 1 := cmpi .sge main_arg10 main_v0
  let main_c_0 : IVec S_ 32 := constantI S_ 32 32#32
  let main_v2 : IVec S512x1024 32 := broadcastInDim S512x1024 ![] bcast_S_S512x1024 main_c_0
  let main_v3 : IVec S512x1024 1 := cmpi .slt main_arg10 main_v2
  let main_v4 : IVec S512x1024 1 := andi main_v1 main_v3
  main_v4
-- ==== Kernel.lean ====
abbrev S512x1024x64 : Shape := ⟨3, ![512, 1024, 64]⟩
abbrev S1024 : Shape := ⟨1, ![1024]⟩
abbrev S64x64 : Shape := ⟨2, ![64, 64]⟩
abbrev S64 : Shape := ⟨1, ![64]⟩
abbrev S64x32 : Shape := ⟨2, ![64, 32]⟩
abbrev S32 : Shape := ⟨1, ![32]⟩
abbrev S512x1024 : Shape := ⟨2, ![512, 1024]⟩
abbrev S512x64x1024 : Shape := ⟨3, ![512, 64, 1024]⟩
abbrev S64x128 : Shape := ⟨2, ![64, 128]⟩
abbrev S128x64 : Shape := ⟨2, ![128, 64]⟩
abbrev S128 : Shape := ⟨1, ![128]⟩
abbrev S128x1 : Shape := ⟨2, ![128, 1]⟩
abbrev S128x1024 : Shape := ⟨2, ![128, 1024]⟩
abbrev S_ : Shape := ⟨0, ![]⟩
abbrev S1 : Shape := ⟨1, ![1]⟩
abbrev S2 : Shape := ⟨1, ![2]⟩
abbrev S64x1 : Shape := ⟨2, ![64, 1]⟩
abbrev S64x1024 : Shape := ⟨2, ![64, 1024]⟩
abbrev S512x1x1024 : Shape := ⟨3, ![512, 1, 1024]⟩
abbrev S1x1024 : Shape := ⟨2, ![1, 1024]⟩
abbrev S32x64x1024 : Shape := ⟨3, ![32, 64, 1024]⟩
abbrev S32x1x1024 : Shape := ⟨3, ![32, 1, 1024]⟩
abbrev S1x64x1024 : Shape := ⟨3, ![1, 64, 1024]⟩
abbrev S32x1024 : Shape := ⟨2, ![32, 1024]⟩
abbrev S1x1x1024 : Shape := ⟨3, ![1, 1, 1024]⟩
abbrev S8x1024 : Shape := ⟨2, ![8, 1024]⟩
abbrev S8x1024x1 : Shape := ⟨3, ![8, 1024, 1]⟩

abbrev nBuf : Space → Nat
  | .hbm => 44
  | .vmem => 15
  | .smem => 0
  | _ => 0

abbrev bufTy : (tb : Table) → Fin (tcTables nBuf tb) → BufTy
  | .hbm, ⟨0, _⟩ => ⟨S512x1024x64, .f32⟩
  | .hbm, ⟨1, _⟩ => ⟨S1024, .f32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S512x1024, .i32⟩
  | .hbm, ⟨11, _⟩ => ⟨S1024, .i32⟩
  | .hbm, ⟨12, _⟩ => ⟨S512x64x1024, .f32⟩
  | .hbm, ⟨13, _⟩ => ⟨S64x128, .f32⟩
  | .hbm, ⟨14, _⟩ => ⟨S128x64, .f32⟩
  | .hbm, ⟨15, _⟩ => ⟨S128, .f32⟩
  | .hbm, ⟨16, _⟩ => ⟨S128x1, .f32⟩
  | .hbm, ⟨17, _⟩ => ⟨S128x1024, .f32⟩
  | .hbm, ⟨18, _⟩ => ⟨S128x1024, .bf16⟩
  | .hbm, ⟨19, _⟩ => ⟨S_, .f32⟩
  | .hbm, ⟨20, _⟩ => ⟨S128x64, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S128x64, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S128x64, .f32⟩
  | .hbm, ⟨33, _⟩ => ⟨S64x128, .f32⟩
  | .hbm, ⟨34, _⟩ => ⟨S64x128, .bf16⟩
  | .hbm, ⟨35, _⟩ => ⟨S64, .f32⟩
  | .hbm, ⟨36, _⟩ => ⟨S64x1, .f32⟩
  | .hbm, ⟨37, _⟩ => ⟨S64x1024, .f32⟩
  | .hbm, ⟨38, _⟩ => ⟨S512x1x1024, .i32⟩
  | .hbm, ⟨39, _⟩ => ⟨S1x1024, .i32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .local _ .vmem, ⟨0, _⟩ => ⟨S32x64x1024, .f32⟩
  | .local _ .vmem, ⟨1, _⟩ => ⟨S32x64x1024, .f32⟩
  | .local _ .vmem, ⟨2, _⟩ => ⟨S32x1x1024, .i32⟩
  | .local _ .vmem, ⟨3, _⟩ => ⟨S32x1x1024, .i32⟩
  | .local _ .vmem, ⟨4, _⟩ => ⟨S1x1024, .i32⟩
  | .local _ .vmem, ⟨5, _⟩ => ⟨S1x1024, .f32⟩
  | .local _ .vmem, ⟨6, _⟩ => ⟨S128x64, .f32⟩
  | .local _ .vmem, ⟨7, _⟩ => ⟨S128x1024, .bf16⟩
  | .local _ .vmem, ⟨8, _⟩ => ⟨S64x128, .bf16⟩
  | .local _ .vmem, ⟨9, _⟩ => ⟨S64x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S512x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_v24_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32_1230 : BitVec 32 := 15#32
  let v4978 : BitVec 1 := Scalar.cmpi .eq arg0 c15_i32_1230
  let v4979 : BitVec 32 := Scalar.extui v4978
  let c0_i32_1231 : BitVec 32 := 0#32
  let v4980 : BitVec 1 := Scalar.cmpi .ne v4979 c0_i32_1231
  v4980

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S512x1024x64 : Shape := ⟨3, ![512, 1024, 64]⟩
abbrev S1024 : Shape := ⟨1, ![1024]⟩
abbrev S64x64 : Shape := ⟨2, ![64, 64]⟩
abbrev S64 : Shape := ⟨1, ![64]⟩
abbrev S64x32 : Shape := ⟨2, ![64, 32]⟩
abbrev S32 : Shape := ⟨1, ![32]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S_ : Shape := ⟨0, ![]⟩
abbrev S1x1x64 : Shape := ⟨3, ![1, 1, 64]⟩
abbrev S512x1024x32 : Shape := ⟨3, ![512, 1024, 32]⟩
abbrev S1x1x32 : Shape := ⟨3, ![1, 1, 32]⟩
abbrev S512x1024x1 : Shape := ⟨3, ![512, 1024, 1]⟩
abbrev S512x1024x1x1 : Shape := ⟨4, ![512, 1024, 1, 1]⟩
abbrev S1 : Shape := ⟨1, ![1]⟩
abbrev S1x1x1x1 : Shape := ⟨4, ![1, 1, 1, 1]⟩

abbrev nBuf : Space → Nat
  | .hbm => 148
  | .vmem => 0
  | .smem => 0
  | _ => 0

abbrev hbmTy0_0 (i : Nat) : BufTy := match i % 128 with
  | 0 => ⟨S512x1024x64, .f32⟩
  | 1 => ⟨S1024, .f32⟩
  | 2 => ⟨S64x64, .f32⟩
  | 3 => ⟨S64, .f32⟩
  | 4 => ⟨S64x32, .f32⟩
  | 5 => ⟨S32, .f32⟩
  | 6 => ⟨S64x64, .f32⟩
  | 7 => ⟨S64, .f32⟩
  | 8 => ⟨S64x32, .f32⟩
  | 9 => ⟨S32, .f32⟩
  | 10 => ⟨S512x1024, .i32⟩
  | 11 => ⟨S1024, .i32⟩
  | 12 => ⟨S512, .i32⟩
  | 13 => ⟨S512x1, .i32⟩
  | 14 => ⟨S1x1024, .i32⟩
  | 15 => ⟨S512x1024, .i32⟩
  | 16 => ⟨S512x1024, .i32⟩
  | 17 => ⟨S512x1024, .i1⟩
  | 18 => ⟨S1x1024, .i32⟩
  | 19 => ⟨S_, .i32⟩
  | 20 => ⟨S1x1024, .i32⟩
  | 21 => ⟨S1x1024, .i32⟩
  | 22 => ⟨S512x1024, .i32⟩
  | 23 => ⟨S512x1024, .i32⟩
  | 24 => ⟨S512x1024, .i1⟩
  | 25 => ⟨S512x1024, .i1⟩
  | 26 => ⟨S512x1024, .i1⟩
  | 27 => ⟨S512x1024x64, .f32⟩
  | 28 => ⟨S1x1x64, .f32⟩
  | 29 => ⟨S512x1024x64, .f32⟩
  | 30 => ⟨S512x1024x64, .f32⟩
  | 31 => ⟨S_, .f32⟩
  | 32 => ⟨S512x1024x64, .f32⟩
  | 33 => ⟨S512x1024x64, .f32⟩
  | 34 => ⟨S512x1024x32, .f32⟩
  | 35 => ⟨S1x1x32, .f32⟩
  | 36 => ⟨S512x1024x32, .f32⟩
  | 37 => ⟨S512x1024x32, .f32⟩
  | 38 => ⟨S_, .f32⟩
  | 39 => ⟨S512x1024, .f32⟩
  | 40 => ⟨S_, .f32⟩
  | 41 => ⟨S512x1024, .f32⟩
  | 42 => ⟨S512x1024, .f32⟩
  | 43 => ⟨S512x1024x1, .f32⟩
  | 44 => ⟨S512x1024x32, .f32⟩
  | 45 => ⟨S512x1024x32, .f32⟩
  | 46 => ⟨S512x1024x32, .f32⟩
  | 47 => ⟨S_, .f32⟩
  | 48 => ⟨S512x1024, .f32⟩
  | 49 => ⟨S512x1024x1, .f32⟩
  | 50 => ⟨S512x1024x1, .f32⟩
  | 51 => ⟨S512x1024x32, .f32⟩
  | 52 => ⟨S512x1024x32, .f32⟩
  | 53 => ⟨S512x1024x1, .i32⟩
  | 54 => ⟨S_, .i32⟩
  | 55 => ⟨S512x1024x1, .i32⟩
  | 56 => ⟨S512x1024x1, .i1⟩
  | 57 => ⟨S_, .i32⟩
  | 58 => ⟨S512x1024x1, .i32⟩
  | 59 => ⟨S512x1024x1, .i32⟩
  | 60 => ⟨S512x1024x1, .i32⟩
  | 61 => ⟨S512x1024x1x1, .i32⟩
  | 62 => ⟨S1, .i32⟩
  | 63 => ⟨S_, .i32⟩
  | 64 => ⟨S512x1024x1x1, .i32⟩
  | 65 => ⟨S512x1024x1x1, .i1⟩
  | 66 => ⟨S1x1x1x1, .i32⟩
  | 67 => ⟨S512x1024x1x1, .i32⟩
  | 68 => ⟨S512x1024x1x1, .i1⟩
  | 69 => ⟨S512x1024x1x1, .i1⟩
  | 70 => ⟨S_, .i1⟩
  | 71 => ⟨S512x1024x1, .i1⟩
  | 72 => ⟨S512x1024x1, .f32⟩
  | 73 => ⟨S_, .f32⟩
  | 74 => ⟨S512x1024x1, .f32⟩
  | 75 => ⟨S512x1024x1, .f32⟩
  | 76 => ⟨S512x1024, .f32⟩
  | 77 => ⟨S_, .f32⟩
  | 78 => ⟨S_, .f32⟩
  | 79 => ⟨S512x1024, .f32⟩
  | 80 => ⟨S512x1024, .f32⟩
  | 81 => ⟨S512x1024x64, .f32⟩
  | 82 => ⟨S1x1x64, .f32⟩
  | 83 => ⟨S512x1024x64, .f32⟩
  | 84 => ⟨S512x1024x64, .f32⟩
  | 85 => ⟨S_, .f32⟩
  | 86 => ⟨S512x1024x64, .f32⟩
  | 87 => ⟨S512x1024x64, .f32⟩
  | 88 => ⟨S512x1024x32, .f32⟩
  | 89 => ⟨S1x1x32, .f32⟩
  | 90 => ⟨S512x1024x32, .f32⟩
  | 91 => ⟨S512x1024x32, .f32⟩
  | 92 => ⟨S_, .f32⟩
  | 93 => ⟨S512x1024, .f32⟩
  | 94 => ⟨S_, .f32⟩
  | 95 => ⟨S512x1024, .f32⟩
  | 96 => ⟨S512x1024, .f32⟩
  | 97 => ⟨S512x1024x1, .f32⟩
  | 98 => ⟨S512x1024x32, .f32⟩
  | 99 => ⟨S512x1024x32, .f32⟩
  | 100 => ⟨S512x1024x32, .f32⟩
  | 101 => ⟨S_, .f32⟩
  | 102 => ⟨S512x1024, .f32⟩
  | 103 => ⟨S512x1024x1, .f32⟩
  | 104 => ⟨S512x1024x1, .f32⟩
  | 105 => ⟨S512x1024x32, .f32⟩
  | 106 => ⟨S512x1024x32, .f32⟩
  | 107 => ⟨S512x1024x1, .i32⟩
  | 108 => ⟨S_, .i32⟩
  | 109 => ⟨S512x1024x1, .i32⟩
  | 110 => ⟨S512x1024x1, .i1⟩
  | 111 => ⟨S_, .i32⟩
  | 112 => ⟨S512x1024x1, .i32⟩
  | 113 => ⟨S512x1024x1, .i32⟩
  | 114 => ⟨S512x1024x1, .i32⟩
  | 115 => ⟨S512x1024x1x1, .i32⟩
  | 116 => ⟨S1, .i32⟩
  | 117 => ⟨S_, .i32⟩
  | 118 => ⟨S512x1024x1x1, .i32⟩
  | 119 => ⟨S512x1024x1x1, .i1⟩
  | 120 => ⟨S1x1x1x1, .i32⟩
  | 121 => ⟨S512x1024x1x1, .i32⟩
  | 122 => ⟨S512x1024x1x1, .i1⟩
  | 123 => ⟨S512x1024x1x1, .i1⟩
  | 124 => ⟨S_, .i1⟩
  | 125 => ⟨S512x1024x1, .i1⟩
  | 126 => ⟨S512x1024x1, .f32⟩
  | 127 => ⟨S_, .f32⟩
  | _ => ⟨S512x1024x64, .f32⟩

abbrev hbmTy0_1 (i : Nat) : BufTy := match i % 128 with
  | 0 => ⟨S512x1024x1, .f32⟩
  | 1 => ⟨S512x1024x1, .f32⟩
  | 2 => ⟨S512x1024, .f32⟩
  | 3 => ⟨S512x1024, .i1⟩
  | 4 => ⟨S_, .f32⟩
  | 5 => ⟨S_, .f32⟩
  | 6 => ⟨S512x1024, .f32⟩
  | 7 => ⟨S512x1024, .f32⟩
  | 8 => ⟨S_, .f32⟩
  | 9 => ⟨S1024, .f32⟩
  | 10 => ⟨S_, .f32⟩
  | 11 => ⟨S1024, .f32⟩
  | 12 => ⟨S_, .f32⟩
  | 13 => ⟨S1024, .f32⟩
  | 14 => ⟨S1024, .f32⟩
  | 15 => ⟨S1024, .f32⟩
  | 16 => ⟨S1024, .f32⟩
  | 17 => ⟨S1x1024, .f32⟩
  | 18 => ⟨S1x1024, .f32⟩
  | 19 => ⟨S1x1024, .f32⟩
  | _ => ⟨S512x1024x64, .f32⟩

abbrev hbmTy (i : Nat) : BufTy := match i / 128 with
  | 0 => hbmTy0_0 i
  | 1 => hbmTy0_1 i
  | _ => ⟨S512x1024x64, .f32⟩

abbrev bufTy : (tb : Table) → Fin (tcTables nBuf tb) → BufTy
  | .hbm, ⟨i, _⟩ => hbmTy i
  | _, _ => ⟨S512x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_cst : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_cst : Ref sig .tc := ⟨.hbm, 38, rfl⟩
abbrev main_call1_v0 : Ref sig .tc := ⟨.hbm, 39, rfl⟩
abbrev main_call1_cst_0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_cst_1 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_v23 : Ref sig .tc := ⟨.hbm, 52, rfl⟩
abbrev main_v24 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_cst : Ref sig .tc := ⟨.hbm, 73, rfl⟩
abbrev main_call2_v14 : Ref sig .tc := ⟨.hbm, 74, rfl⟩
abbrev main_v25 : Ref sig .tc := ⟨.hbm, 75, rfl⟩
abbrev main_v26 : Ref sig .tc := ⟨.hbm, 76, rfl⟩
abbrev main_cst : Ref sig .tc := ⟨.hbm, 77, rfl⟩
abbrev main_call3_v0 : Ref sig .tc := ⟨.hbm, 78, rfl⟩
abbrev main_call3_v1 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_call4_cst : Ref sig .tc := ⟨.hbm, 85, rfl⟩
abbrev main_call4_v0 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_call5_cst : Ref sig .tc := ⟨.hbm, 92, rfl⟩
abbrev main_call5_v0 : Ref sig .tc := ⟨.hbm, 93, rfl⟩
abbrev main_call5_cst_0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_v5 : Ref sig .tc := ⟨.hbm, 99, rfl⟩
abbrev main_call5_v6 : Ref sig .tc := ⟨.hbm, 100, rfl⟩
abbrev main_call5_cst_1 : Ref sig .tc := ⟨.hbm, 101, rfl⟩
abbrev main_call5_v7 : Ref sig .tc := ⟨.hbm, 102, rfl⟩
abbrev main_call5_v8 : Ref sig .tc := ⟨.hbm, 103, rfl⟩
abbrev main_call5_v9 : Ref sig .tc := ⟨.hbm, 104, rfl⟩
abbrev main_call5_v10 : Ref sig .tc := ⟨.hbm, 105, rfl⟩
abbrev main_v37 : Ref sig .tc := ⟨.hbm, 106, rfl⟩
abbrev main_v38 : Ref sig .tc := ⟨.hbm, 107, rfl⟩
abbrev main_call6_c : Ref sig .tc := ⟨.hbm, 108, rfl⟩
abbrev main_call6_v0 : Ref sig .tc := ⟨.hbm, 109, rfl⟩
abbrev main_call6_v1 : Ref sig .tc := ⟨.hbm, 110, rfl⟩
abbrev main_call6_c_0 : Ref sig .tc := ⟨.hbm, 111, rfl⟩
abbrev main_call6_v2 : Ref sig .tc := ⟨.hbm, 112, rfl⟩
abbrev main_call6_v3 : Ref sig .tc := ⟨.hbm, 113, rfl⟩
abbrev main_call6_v4 : Ref sig .tc := ⟨.hbm, 114, rfl⟩
abbrev main_call6_v5 : Ref sig .tc := ⟨.hbm, 115, rfl⟩
abbrev main_call6_c_1 : Ref sig .tc := ⟨.hbm, 116, rfl⟩
abbrev main_call6_c_2 : Ref sig .tc := ⟨.hbm, 117, rfl⟩
abbrev main_call6_v6 : Ref sig .tc := ⟨.hbm, 118, rfl⟩
abbrev main_call6_v7 : Ref sig .tc := ⟨.hbm, 119, rfl⟩
abbrev main_call6_v8 : Ref sig .tc := ⟨.hbm, 120, rfl⟩
abbrev main_call6_v9 : Ref sig .tc := ⟨.hbm, 121, rfl⟩
abbrev main_call6_v10 : Ref sig .tc := ⟨.hbm, 122, rfl⟩
abbrev main_call6_v11 : Ref sig .tc := ⟨.hbm, 123, rfl⟩
abbrev main_call6_c_3 : Ref sig .tc := ⟨.hbm, 124, rfl⟩
abbrev main_call6_v12 : Ref sig .tc := ⟨.hbm, 125, rfl⟩
abbrev main_call6_v13 : Ref sig .tc := ⟨.hbm, 126, rfl⟩
abbrev main_call6_cst : Ref sig .tc := ⟨.hbm, 127, rfl⟩
abbrev main_call6_v14 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_cst_0 : Ref sig .tc := ⟨.hbm, 132, rfl⟩
abbrev main_call7_v0 : Ref sig .tc := ⟨.hbm, 133, rfl⟩
abbrev main_call7_v1 : Ref sig .tc := ⟨.hbm, 134, rfl⟩
abbrev main_v42 : Ref sig .tc := ⟨.hbm, 135, rfl⟩
abbrev main_cst_1 : Ref sig .tc := ⟨.hbm, 136, rfl⟩
abbrev main_v43 : Ref sig .tc := ⟨.hbm, 137, rfl⟩
abbrev main_cst_2 : Ref sig .tc := ⟨.hbm, 138, rfl⟩
abbrev main_v44 : Ref sig .tc := ⟨.hbm, 139, rfl⟩
abbrev main_cst_3 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩

abbrev nD : Nat := 1
abbrev τ : Topo := Topo.v7x

variable {F : FTy → Type} [FloatOps F]
-- ==== Proof.Host.lean ====
/-
  What the host operations before the launch leave in the arrays that the kernel reads, at an index: the states
  with the last two axes swapped, the two policies' weights and biases one above the other, the actions, the lengths
  and the log rewards as rows.
-/
module

public import proofs.«01_k».proof.Proof.Gen.KernelIdeal.Frame.Runs
public import Idealize.ShloMosaic.Lib.Pointwise
public import Idealize.ShloMosaic.Lib.StableHlo.ReadAt

@[expose] public section

noncomputable section

namespace Trajectory

open Cert.KernelIdeal Cert.KernelIdeal.Gen Idealize.ShloMosaic Idealize.ShloMosaic.TcCoe

variable (m : (ℓ : Loc nD τ sig) → Buf (Elt Ideal) ℓ)

theorem V_states (c : Dev nD) (t : Fin 512) (d : Fin 64) (b : Fin 1024) :
    V m c main_v0 (ix3 t d b) = m (c.tc.loc main_arg0) (ix3 t b d) := by
  unfold V
  after_reads_at

theorem V_actions (c : Dev nD) (t : Fin 512) (b : Fin 1024) :
    V m c main_v21 (ix3 t 0 b) = m (c.tc.loc main_arg10) (ix2 t b) := by
  unfold V
  after_reads_at

theorem V_lengths (c : Dev nD) (b : Fin 1024) :
    V m c main_v22 (ix2 0 b) = m (c.tc.loc main_arg11) (ix1 b) := by
  unfold V
  after_reads_at

theorem V_rewards (c : Dev nD) (b : Fin 1024) :
    V m c main_v23 (ix2 0 b) = m (c.tc.loc main_arg1) (ix1 b) := by
  unfold V
  after_reads_at

theorem V_w1_low (c : Dev nD) (h d : Fin 64) :
    V m c main_v2 (ix2 ⟨h.val, by omega⟩ d) = m (c.tc.loc main_arg2) (ix2 d h) := by
  unfold V
  after_reads_at
  after_reads_at

theorem V_w1_high (c : Dev nD) (h d : Fin 64) :
    V m c main_v2 (ix2 ⟨64 + h.val, by omega⟩ d) = m (c.tc.loc main_arg6) (ix2 d h) := by
  unfold V
  after_reads_at
  after_reads_at

theorem V_b1_low (c : Dev nD) (h : Fin 64) (b : Fin 1024) :
    V m c main_v6 (ix2 ⟨h.val, by omega⟩ b) = m (c.tc.loc main_arg3) (ix1 h) := by
  unfold V
  after_reads_at
  after_reads_at

theorem V_b1_high (c : Dev nD) (h : Fin 64) (b : Fin 1024) :
    V m c main_v6 (ix2 ⟨64 + h.val, by omega⟩ b) = m (c.tc.loc main_arg7) (ix1 h) := by
  unfold V
  after_reads_at
  after_reads_at

theorem V_b2_low (c : Dev nD) (a : Fin 32) (b : Fin 1024) :
    V m c main_v20 (ix2 ⟨a.val, by omega⟩ b) = m (c.tc.loc main_arg5) (ix1 a) := by
  unfold V
  after_reads_at
  after_reads_at

theorem V_b2_high (c : Dev nD) (a : Fin 32) (b : Fin 1024) :
    V m c main_v20 (ix2 ⟨32 + a.val, by omega⟩ b) = m (c.tc.loc main_arg9) (ix1 a) := by
  unfold V
  after_reads_at
  after_reads_at

end Trajectory

end
-- ==== Proof.Block.lean ====
/-
  The second weight matrix: a matrix of zeros with the two policies' matrices set on its diagonal.
-/
module

public import proofs.«01_k».proof.Proof.Host
public import Idealize.ShloMosaic.Lib.Routing.OpsSet
public import Idealize.ShloMosaic.Lib.Routing.OpsOne

@[expose] public section

noncomputable section

namespace Trajectory

open Cert.KernelIdeal Cert.KernelIdeal.Gen Idealize.ShloMosaic Idealize.ShloMosaic.TcCoe

/-- Entry `(i, j)` of a 64×32 block set at a pair of positions lands that far from them. -/
theorem lands (pos : IVec S2 32) (i : Fin 64) (j : Fin 32) (r : Fin 128) (c : Fin 64) :
    scatter_S128x64_S2_S64x32_01_n_01_0.resultIdx? (ix2 i j) pos = some (ix2 r c)
      ↔ (pos (ix1 (0 : Fin 2))).toInt + i.val = r.val ∧ (pos (ix1 (1 : Fin 2))).toInt + j.val = c.val := by
  have w0 : scatter_S128x64_S2_S64x32_01_n_01_0.window (ix2 i j) 0 = i.val := rfl
  have w1 : scatter_S128x64_S2_S64x32_01_n_01_0.window (ix2 i j) 1 = j.val := rfl
  have s0 : scatter_S128x64_S2_S64x32_01_n_01_0.start (ix2 i j) pos 0 = (pos (ix1 (0 : Fin 2))).toInt :=
    Routing.start_pair scatter_S128x64_S2_S64x32_01_n_01_0 rfl rfl pos (ix2 i j) 0
  have s1 : scatter_S128x64_S2_S64x32_01_n_01_0.start (ix2 i j) pos 1 = (pos (ix1 (1 : Fin 2))).toInt :=
    Routing.start_pair scatter_S128x64_S2_S64x32_01_n_01_0 rfl rfl pos (ix2 i j) 1
  refine (Routing.resultIdx?_ix2 scatter_S128x64_S2_S64x32_01_n_01_0 (ix2 i j) pos r c).trans ?_
  rw [w0, w1, s0, s1]

/-- The block read where it lies. -/
theorem block_in (x : S128x64.Idx → EReal) (pos : IVec S2 32) (u : S64x32.Idx → EReal) (i : Fin 64) (j : Fin 32) (r : Fin 128)
    (c : Fin 64) (h0 : (pos (ix1 (0 : Fin 2))).toInt + i.val = r.val) (h1 : (pos (ix1 (1 : Fin 2))).toInt + j.val = c.val) :
    Host.scatter scatter_S128x64_S2_S64x32_01_n_01_0 (fun _ b => b) x pos u (ix2 r c) = u (ix2 i j) := by
  refine Routing.scatter_set_hit _ x pos u _ _ (fun k hk => ?_) (ix2 i j) ((lands pos i j r c).2 ⟨h0, h1⟩)
  rw [eq_ix2 k] at hk ⊢
  obtain ⟨e0, e1⟩ := (lands pos _ _ r c).1 hk
  have a0 : k 0 = i := Fin.ext (by omega)
  have a1 : k 1 = j := Fin.ext (by omega)
  rw [a0, a1]

/-- The matrix read off the block. -/
theorem block_out (x : S128x64.Idx → EReal) (pos : IVec S2 32) (u : S64x32.Idx → EReal) (r : Fin 128) (c : Fin 64)
    (h : ∀ (i : Fin 64) (j : Fin 32), ¬((pos (ix1 (0 : Fin 2))).toInt + i.val = r.val ∧ (pos (ix1 (1 : Fin 2))).toInt + j.val = c.val)) :
    Host.scatter scatter_S128x64_S2_S64x32_01_n_01_0 (fun _ b => b) x pos u (ix2 r c) = x (ix2 r c) := by
  refine Routing.scatter_set_miss _ x pos u _ (fun k hk => ?_)
  rw [eq_ix2 k] at hk
  exact h _ _ ((lands pos _ _ r c).1 hk)

/-- Zeros, with `u` at `(0, 0)` and `v` at `(64, 32)`. -/
def diagonal (u v : S64x32.Idx → EReal) (p q : IVec S2 32) : S128x64.Idx → EReal :=
  Host.scatter scatter_S128x64_S2_S64x32_01_n_01_0 (fun _ b => b)
    (Host.scatter scatter_S128x64_S2_S64x32_01_n_01_0 (fun _ b => b)
      (broadcastInDim S128x64 ![] bcast_S_S128x64 (constant (F := Ideal) S_ FTy.f32 0#32)) p u) q v

section
variable (u v : S64x32.Idx → EReal) (p q : IVec S2 32) (p0 : p (ix1 0) = 0#32) (p1 : p (ix1 1) = 0#32)
  (q0 : q (ix1 0) = 64#32) (q1 : q (ix1 1) = 32#32)

include p0 p1 q0 q1

theorem diagonal_low (h : Fin 64) (a : Fin 32) :
    diagonal u v p q (ix2 ⟨h.val, by omega⟩ ⟨a.val, by omega⟩) = u (ix2 h a) := by
  unfold diagonal
  rw [block_out _ q v, block_in _ p u h a]
  · rw [p0]; simp
  · rw [p1]; simp
  · intro i j
    rw [q0, q1]
    have := h.isLt
    simp
    omega

theorem diagonal_high (h : Fin 64) (a : Fin 32) :
    diagonal u v p q (ix2 ⟨64 + h.val, by omega⟩ ⟨32 + a.val, by omega⟩) = v (ix2 h a) := by
  unfold diagonal
  rw [block_in _ q v h a]
  · rw [q0]; simp
  · rw [q1]; simp

theorem diagonal_right (h : Fin 64) (a : Fin 32) :
    diagonal u v p q (ix2 ⟨h.val, by omega⟩ ⟨32 + a.val, by omega⟩) = 0 := by
  unfold diagonal
  rw [block_out _ q v, block_out _ p u]
  · pointwise
  · intro i j
    rw [p0, p1]
    have := j.isLt
    simp
    omega
  · intro i j
    rw [q0, q1]
    have := h.isLt
    simp
    omega

theorem diagonal_left (h : Fin 64) (a : Fin 32) :
    diagonal u v p q (ix2 ⟨64 + h.val, by omega⟩ ⟨a.val, by omega⟩) = 0 := by
  unfold diagonal
  rw [block_out _ q v, block_out _ p u]
  · pointwise
  · intro i j
    rw [p0, p1]
    have := i.isLt
    simp
    omega
  · intro i j
    rw [q0, q1]
    have := a.isLt
    simp
    omega

end

variable (m : (ℓ : Loc nD τ sig) → Buf (Elt Ideal) ℓ)

theorem V_first0 (c : Dev nD) : V m c main_v10 (ix1 0) = 0#32 := by unfold V; after_reads_at
theorem V_first1 (c : Dev nD) : V m c main_v10 (ix1 1) = 0#32 := by unfold V; after_reads_at
theorem V_second0 (c : Dev nD) : V m c main_v14 (ix1 0) = 64#32 := by unfold V; after_reads_at
theorem V_second1 (c : Dev nD) : V m c main_v14 (ix1 1) = 32#32 := by unfold V; after_reads_at

/-- The second weight matrix as the kernel reads it is the transposed diagonal matrix. -/
theorem V_w2 (c : Dev nD) (a : Fin 64) (h : Fin 128) :
    V m c main_v17 (ix2 a h)
      = diagonal (m (c.tc.loc main_arg4)) (m (c.tc.loc main_arg8)) (V m c main_v10) (V m c main_v14) (ix2 h a) := by
  unfold V diagonal
  after_reads_at

theorem V_w2_low (c : Dev nD) (h : Fin 64) (a : Fin 32) :
    V m c main_v17 (ix2 ⟨a.val, by omega⟩ ⟨h.val, by omega⟩) = m (c.tc.loc main_arg4) (ix2 h a) :=
  (V_w2 m c ⟨a.val, by omega⟩ ⟨h.val, by omega⟩).trans
    (diagonal_low (m (c.tc.loc main_arg4)) (m (c.tc.loc main_arg8)) (V m c main_v10) (V m c main_v14)
      (V_first0 m c) (V_first1 m c) (V_second0 m c) (V_second1 m c) h a)

theorem V_w2_high (c : Dev nD) (h : Fin 64) (a : Fin 32) :
    V m c main_v17 (ix2 ⟨32 + a.val, by omega⟩ ⟨64 + h.val, by omega⟩) = m (c.tc.loc main_arg8) (ix2 h a) :=
  (V_w2 m c ⟨32 + a.val, by omega⟩ ⟨64 + h.val, by omega⟩).trans
    (diagonal_high (m (c.tc.loc main_arg4)) (m (c.tc.loc main_arg8)) (V m c main_v10) (V m c main_v14)
      (V_first0 m c) (V_first1 m c) (V_second0 m c) (V_second1 m c) h a)

theorem V_w2_zero_low (c : Dev nD) (h : Fin 64) (a : Fin 32) :
    V m c main_v17 (ix2 ⟨a.val, by omega⟩ ⟨64 + h.val, by omega⟩) = (0 : EReal) :=
  (V_w2 m c ⟨a.val, by omega⟩ ⟨64 + h.val, by omega⟩).trans
    (diagonal_left (m (c.tc.loc main_arg4)) (m (c.tc.loc main_arg8)) (V m c main_v10) (V m c main_v14)
      (V_first0 m c) (V_first1 m c) (V_second0 m c) (V_second1 m c) h a)

theorem V_w2_zero_high (c : Dev nD) (h : Fin 64) (a : Fin 32) :
    V m c main_v17 (ix2 ⟨32 + a.val, by omega⟩ ⟨h.val, by omega⟩) = (0 : EReal) :=
  (V_w2 m c ⟨32 + a.val, by omega⟩ ⟨h.val, by omega⟩).trans
    (diagonal_right (m (c.tc.loc main_arg4)) (m (c.tc.loc main_arg8)) (V m c main_v10) (V m c main_v14)
      (V_first0 m c) (V_first1 m c) (V_second0 m c) (V_second1 m c) h a)

end Trajectory

end
-- ==== Proof.Blocks.lean ====
/-
  The blocks that a grid point reads, at an index: the point's 32 states and actions, and everything else whole.
-/
module

public import proofs.«01_k».proof.Proof.Block
public import Idealize.ShloMosaic.Lib.Pipeline.ValueKit.Point

@[expose] public section

noncomputable section

namespace Trajectory

open Cert.KernelIdeal Cert.KernelIdeal.Gen Idealize.ShloMosaic Idealize.ShloMosaic.TcCoe

/-- The number of a grid point is its coordinate. -/
theorem coord (t : Fin cfg0.N) : (grid0.coords t 0).val = t.val := by
  revert t; decide +kernel

/-- The positions of the blocks. -/
theorem index_all : ∀ t : Fin cfg0.N, (cfg0.win 0).index t = ![t.val, 0, 0] ∧ (cfg0.win 1).index t = ![t.val, 0, 0]
    ∧ (cfg0.win 2).index t = ![0, 0] ∧ (cfg0.win 3).index t = ![0, 0] ∧ (cfg0.win 4).index t = ![0, 0]
    ∧ (cfg0.win 5).index t = ![0, 0] ∧ (cfg0.win 6).index t = ![0, 0] ∧ (cfg0.win 7).index t = ![0, 0] := by
  decide +kernel

variable (m : (ℓ : Loc nD τ sig) → Buf (Elt Ideal) ℓ) (c : Dev nD)

theorem blk_states (t : Fin cfg0.N) (j : Fin 32) (d : Fin 64) (b : Fin 1024) (T : Fin 512) (hT : T.val = 32 * t.val + j.val) :
    iblk m c 0 t (ix3 j d b) = V m c main_v0 (ix3 T d b) := by
  obtain ⟨e0, e1, e2, e3, e4, e5, e6, e7⟩ := index_all t
  blk_ext [iblk, e0]

theorem blk_actions (t : Fin cfg0.N) (j : Fin 32) (b : Fin 1024) (T : Fin 512) (hT : T.val = 32 * t.val + j.val) :
    iblk m c 1 t (ix3 j 0 b) = V m c main_v21 (ix3 T 0 b) := by
  obtain ⟨e0, e1, e2, e3, e4, e5, e6, e7⟩ := index_all t
  blk_ext [iblk, e1]

theorem blk_lengths (t : Fin cfg0.N) (b : Fin 1024) : iblk m c 2 t (ix2 0 b) = V m c main_v22 (ix2 0 b) := by
  obtain ⟨e0, e1, e2, e3, e4, e5, e6, e7⟩ := index_all t
  blk_ext [iblk, e2]

theorem blk_rewards (t : Fin cfg0.N) (b : Fin 1024) : iblk m c 3 t (ix2 0 b) = V m c main_v23 (ix2 0 b) := by
  obtain ⟨e0, e1, e2, e3, e4, e5, e6, e7⟩ := index_all t
  blk_ext [iblk, e3]

theorem blk_w1 (t : Fin cfg0.N) (h : Fin 128) (d : Fin 64) : iblk m c 4 t (ix2 h d) = V m c main_v2 (ix2 h d) := by
  obtain ⟨e0, e1, e2, e3, e4, e5, e6, e7⟩ := index_all t
  blk_ext [iblk, e4]

theorem blk_b1 (t : Fin cfg0.N) (h : Fin 128) (b : Fin 1024) : iblk m c 5 t (ix2 h b) = V m c main_v6 (ix2 h b) := by
  obtain ⟨e0, e1, e2, e3, e4, e5, e6, e7⟩ := index_all t
  blk_ext [iblk, e5]

theorem blk_w2 (t : Fin cfg0.N) (a : Fin 64) (h : Fin 128) : iblk m c 6 t (ix2 a h) = V m c main_v17 (ix2 a h) := by
  obtain ⟨e0, e1, e2, e3, e4, e5, e6, e7⟩ := index_all t
  blk_ext [iblk, e6]

theorem blk_b2 (t : Fin cfg0.N) (a : Fin 64) (b : Fin 1024) : iblk m c 7 t (ix2 a b) = V m c main_v20 (ix2 a b) := by
  obtain ⟨e0, e1, e2, e3, e4, e5, e6, e7⟩ := index_all t
  blk_ext [iblk, e7]

end Trajectory

end
-- ==== Proof.Step.lean ====
/-
  One unrolled step of the kernel's body, stated once for all 32 of them.

  A grid point handles 32 consecutive time steps. Each reads a 64×1024 slab of states and a row of
  actions, computes 64 logits per trajectory (32 of the forward policy, 32 of the backward one), and
  adds to two running rows the log-probability of the action where the step counts.
-/
module

public import proofs.«01_k».proof.Proof.Gen.KernelIdeal.Frame

@[expose] public section

noncomputable section

namespace Trajectory

open Cert.KernelIdeal Cert.KernelIdeal.Gen Idealize.ShloMosaic

variable {F : FTy → Type} [FloatOps F]

/-- What every step of a grid point shares: both weight matrices, both bias arrays, the lengths, and the number of
the grid point. -/
structure Shared (F : FTy → Type) [FloatOps F] where
  w1 : Vec F S128x64 .f32
  b1 : Vec F S128x1024 .bf16
  w2 : Vec F S64x128 .bf16
  b2 : Vec F S64x1024 .f32
  len : Vec F S1x1024 .i32
  point : BitVec 32

/-- The 64×1024 logits of one step: `w2 · max (w1 · x + b1) 0 + b2`. -/
def logits (s : Shared F) (x : Vec F S1x64x1024 .f32) : FVec F S64x1024 .f32 :=
  addf
    (matmul dot_S64x128_S128x1024_S64x1024_1_0_0_1_n_n none
      (shapeCast S64x128 s.w2 shapeCasts_S64x128_S64x128)
      (maximumf
        (addf
          (truncf .bf16
            (matmul dot_S128x64_S64x1024_S128x1024_1_0_0_1_n_n none
              (shapeCast S128x64 s.w1 shapeCasts_S128x64_S128x64)
              (shapeCast S64x1024 x shapeCasts_S1x64x1024_S64x1024)
              (constant S128x1024 .f32 0x00000000#32))
            bitsLt_bf16_f32)
          (shapeCast S128x1024 s.b1 shapeCasts_S128x1024_S128x1024))
        (broadcast S128x1024 (Scalar.ofBits .bf16 0x0000#16 : F .bf16)))
      (constant S64x1024 .f32 0x00000000#32))
    (shapeCast S64x1024 s.b2 shapeCasts_S64x1024_S64x1024)

/-- The log-sum-exp of the 32 rows of `l` that start at `off`, per trajectory. -/
def lse (off : Fin 2 → Nat) (h : S64x1024.Slices off S32x1024) (l : FVec F S64x1024 .f32) : FVec F S1x1024 .f32 :=
  log (shapeCast S1x1024
    (multiReduction .add [0] S1024 (extractStridedSlice S32x1024 off (exp l) h) 0x00000000#32
      reduces_S32x1024_S1024 (.inl rfl) rfl)
    shapeCasts_S1024_S1x1024)

/-- The row indices of an eight-row gather: `lo` for every row, wrapped by 8 where negative. -/
def rows (lo : IVec S1x1024 32) : IVec S8x1024 32 :=
  let b := broadcastTo S8x1024 (shapeCast S1x1024 lo shapeCasts_S1x1024_S1x1024) broadcasts_S1x1024_S8x1024
  shapeCast S8x1024
    (shapeCast S8x1024x1
      (select (cmpi .slt b (broadcast S8x1024 0#32)) (addi b (broadcast S8x1024 8#32)) b)
      shapeCasts_S8x1024_S8x1024x1)
    shapeCasts_S8x1024x1_S8x1024

/-- Among the eight rows of `l` that start at `off`, the one `lo` names, per trajectory. -/
def eight (off : Fin 2 → Nat) (h : S64x1024.Slices off S8x1024) (l : FVec F S64x1024 .f32)
    (lo : IVec S1x1024 32) : FVec F S1x1024 .f32 :=
  extractStridedSlice S1x1024 ![0, 0]
    (dynamicGather 0 (extractStridedSlice S8x1024 off l h) (rows lo)) slices_S8x1024_o0_0_S1x1024

/-- Of four rows the one `hi` names, per trajectory. -/
def fourth (hi : IVec S1x1024 32) (p0 p1 p2 p3 : FVec F S1x1024 .f32) : FVec F S1x1024 .f32 :=
  select (cmpi .eq hi (broadcast S1x1024 3#32)) p3
    (select (cmpi .eq hi (broadcast S1x1024 2#32)) p2
      (select (cmpi .eq hi (broadcast S1x1024 1#32)) p1 p0))

/-- The actions of a step, as a row. -/
def acts (a : Vec F S1x1x1024 .i32) : IVec S1x1024 32 :=
  shapeCast S1x1024 a shapeCasts_S1x1x1024_S1x1024

/-- The low three bits of an action. -/
def low (a : Vec F S1x1x1024 .i32) : IVec S1x1024 32 := andi (acts a) (broadcast S1x1024 7#32)

/-- The bits of an action above the low three. -/
def high (a : Vec F S1x1x1024 .i32) : IVec S1x1024 32 := shrsi (acts a) (broadcast S1x1024 3#32)

/-- The number of the point's `j`-th step, as the kernel computes it. -/
def stepNo (s : Shared F) (j : Nat) : BitVec 32 := Scalar.addi (Scalar.muli s.point 32#32) (BitVec.ofNat 32 j)

/-- Where the step lies inside the trajectory. -/
def valid (s : Shared F) (j : Nat) : IVec S1x1024 1 :=
  cmpi .slt (broadcast S1x1024 (stepNo s j)) (shapeCast S1x1024 s.len shapeCasts_S1x1024_S1x1024)

/-- Where the step lies inside the trajectory and is not its last. -/
def validBack (s : Shared F) (j : Nat) : IVec S1x1024 1 :=
  andi (valid s j)
    (cmpi .ne (broadcast S1x1024 (stepNo s j))
      (subi (shapeCast S1x1024 s.len shapeCasts_S1x1024_S1x1024) (broadcast S1x1024 1#32)))

/-- What a step adds to the forward row. -/
def addFwd (s : Shared F) (j : Nat) (x : Vec F S1x64x1024 .f32) (a : Vec F S1x1x1024 .i32) : FVec F S1x1024 .f32 :=
  select (valid s j)
    (subf
      (fourth (high a)
        (eight ![0, 0] slices_S64x1024_o0_0_S8x1024 (logits s x) (low a))
        (eight ![8, 0] slices_S64x1024_o8_0_S8x1024 (logits s x) (low a))
        (eight ![16, 0] slices_S64x1024_o16_0_S8x1024 (logits s x) (low a))
        (eight ![24, 0] slices_S64x1024_o24_0_S8x1024 (logits s x) (low a)))
      (lse ![0, 0] slices_S64x1024_o0_0_S32x1024 (logits s x)))
    (broadcast S1x1024 (Scalar.ofBits .f32 0x00000000#32 : F .f32))

/-- What a step adds to the backward row. -/
def addBwd (s : Shared F) (j : Nat) (x : Vec F S1x64x1024 .f32) (a : Vec F S1x1x1024 .i32) : FVec F S1x1024 .f32 :=
  select (validBack s j)
    (subf
      (fourth (high a)
        (eight ![32, 0] slices_S64x1024_o32_0_S8x1024 (logits s x) (low a))
        (eight ![40, 0] slices_S64x1024_o40_0_S8x1024 (logits s x) (low a))
        (eight ![48, 0] slices_S64x1024_o48_0_S8x1024 (logits s x) (low a))
        (eight ![56, 0] slices_S64x1024_o56_0_S8x1024 (logits s x) (low a)))
      (lse ![32, 0] slices_S64x1024_o32_0_S32x1024 (logits s x)))
    (broadcast S1x1024 (Scalar.ofBits .f32 0x00000000#32 : F .f32))

/-- The running row after `n` of the 32 steps: zero, then each step's addend in turn. -/
def running (f : Fin 32 → FVec F S1x1024 .f32) : (n : Nat) → n ≤ 32 → FVec F S1x1024 .f32
  | 0, _ => broadcast S1x1024 (Scalar.ofBits .f32 0x00000000#32 : F .f32)
  | n + 1, h => addf (running f n (Nat.le_of_succ_le h)) (f ⟨n, h⟩)

theorem slab_inb (j : Fin 32) :
    ∀ a, (![j.val, 0, 0] : Fin 3 → Nat) a + S1x64x1024.size a ≤ S32x64x1024.size a := by
  have := j.isLt
  intro a
  match a with
  | ⟨0, _⟩ => show j.val + 1 ≤ 32; omega
  | ⟨1, _⟩ => exact Nat.le_refl 64
  | ⟨2, _⟩ => exact Nat.le_refl 1024

theorem line_inb (j : Fin 32) :
    ∀ a, (![j.val, 0, 0] : Fin 3 → Nat) a + S1x1x1024.size a ≤ S32x1x1024.size a := by
  have := j.isLt
  intro a
  match a with
  | ⟨0, _⟩ => show j.val + 1 ≤ 32; omega
  | ⟨1, _⟩ => exact Nat.le_refl 1
  | ⟨2, _⟩ => exact Nat.le_refl 1024

/-- The slab of states the point's `j`-th step reads. -/
def slab (x : Vec F S32x64x1024 .f32) (j : Fin 32) : Vec F S1x64x1024 .f32 :=
  View.ld (Val := Elt F) (e' := .f32) x (Rect.unit (s := S32x64x1024) ![j.val, 0, 0] S1x64x1024.size (slab_inb j))

/-- The row of actions the point's `j`-th step reads. -/
def line (x : Vec F S32x1x1024 .i32) (j : Fin 32) : Vec F S1x1x1024 .i32 :=
  View.ld (Val := Elt F) (e' := .i32) x (Rect.unit (s := S32x1x1024) ![j.val, 0, 0] S1x1x1024.size (line_inb j))

/-- What a whole grid point adds to the forward row. -/
def pointFwd (s : Shared F) (x : Vec F S32x64x1024 .f32) (a : Vec F S32x1x1024 .i32) : FVec F S1x1024 .f32 :=
  running (fun j => addFwd s j.val (slab x j) (line a j)) 32 (Nat.le_refl 32)

/-- What a whole grid point adds to the backward row. -/
def pointBwd (s : Shared F) (x : Vec F S32x64x1024 .f32) (a : Vec F S32x1x1024 .i32) : FVec F S1x1024 .f32 :=
  running (fun j => addBwd s j.val (slab x j) (line a j)) 32 (Nat.le_refl 32)

end Trajectory

end
-- ==== Proof.Softmax.lean ====
/-
  One log-probability, two ways: subtracting the logarithm of the summed exponentials, with or without first
  shifting the logits by their maximum. On the extended reals the two agree whatever the logits are.
-/
module

public import Idealize.ShloMosaic.PureOps.Ideal

@[expose] public section

noncomputable section

namespace Trajectory

open Idealize.ShloMosaic

/-- The log-probability of choice `a` under logits `l`. -/
def logp (l : Fin 32 → EReal) (a : Fin 32) : EReal := l a - Ideal.log (∑ k, Ideal.exp (l k))

theorem exp_nonneg (x : EReal) : 0 ≤ Ideal.exp x := by
  induction x with
  | bot => exact le_refl _
  | top => exact le_top
  | coe r => exact EReal.coe_nonneg.mpr (Real.exp_nonneg r)

/-- The real exponential of a logit below `⊤`. -/
def expR (x : EReal) : ℝ := if x = ⊥ then 0 else Real.exp x.toReal

theorem exp_eq_expR (x : EReal) (h : x ≠ ⊤) : Ideal.exp x = (expR x : EReal) := by
  induction x with
  | bot => simp [expR]
  | top => exact absurd rfl h
  | coe r => simp [expR]

theorem exp_shift (x : EReal) (h : x ≠ ⊤) (r : ℝ) : Ideal.exp (x - r) = ((expR x * Real.exp (-r) : ℝ) : EReal) := by
  induction x with
  | bot => simp [expR]
  | top => exact absurd rfl h
  | coe s =>
    rw [← EReal.coe_sub, Ideal.exp_coe]
    simp [expR, ← Real.exp_add, sub_eq_add_neg]

theorem coe_sum_fin (f : Fin 32 → ℝ) : (∑ k, (f k : EReal)) = ((∑ k, f k : ℝ) : EReal) :=
  (map_sum (⟨⟨Real.toEReal, rfl⟩, EReal.coe_add⟩ : ℝ →+ EReal) f Finset.univ).symm

/-- Shifting the logits by their maximum does not change a log-probability. -/
theorem logp_shift (l : Fin 32 → EReal) (a : Fin 32) (M : EReal) (hle : ∀ k, l k ≤ M) (hat : ∃ k, l k = M) :
    (l a - M) - Ideal.log (∑ k, Ideal.exp (l k - M)) = logp l a := by
  unfold logp
  induction M with
  | bot =>
    have h : l a = ⊥ := le_bot_iff.mp (hle a)
    rw [h]; simp [sub_eq_add_neg]
  | top =>
    obtain ⟨k, hk⟩ := hat
    have hs : (∑ k, Ideal.exp (l k)) = ⊤ := by
      refine top_le_iff.mp ?_
      have := Finset.single_le_sum (f := fun k => Ideal.exp (l k)) (fun i _ => exp_nonneg (l i)) (Finset.mem_univ k)
      rw [hk] at this
      exact this
    rw [hs]; simp [sub_eq_add_neg]
  | coe r =>
    have hne : ∀ k, l k ≠ ⊤ := fun k h => by
      have := hle k
      rw [h] at this
      exact absurd (top_le_iff.mp this) (EReal.coe_ne_top r)
    have hS : 0 < ∑ k, expR (l k) := by
      obtain ⟨k, hk⟩ := hat
      refine Finset.sum_pos' (fun i _ => ?_) ⟨k, Finset.mem_univ k, ?_⟩
      · unfold expR; split
        · exact le_refl _
        · exact Real.exp_nonneg _
      · rw [hk]; simp [expR, Real.exp_pos]
    simp only [fun k => exp_shift (l k) (hne k) r, fun k => exp_eq_expR (l k) (hne k), coe_sum_fin]
    rw [← Finset.sum_mul, Ideal.log_coe, Ideal.log_coe, if_neg (not_le.mpr hS),
      if_neg (not_le.mpr (mul_pos hS (Real.exp_pos _))), Real.log_mul hS.ne' (Real.exp_pos _).ne', Real.log_exp]
    have hx := hne a
    generalize l a = x at hx ⊢
    induction x with
    | bot => simp [sub_eq_add_neg]
    | top => exact absurd rfl hx
    | coe s =>
      rw [← EReal.coe_sub, ← EReal.coe_sub, ← EReal.coe_sub]
      congr 1
      ring

end Trajectory

end
-- ==== Proof.Spec.lean ====
/-
  The mathematics both programs compute, at one trajectory: the logits of a two-layer network, the
  log-probability of the action taken, and which steps count.
-/
module

public import proofs.«01_k».proof.Proof.Softmax

@[expose] public section

noncomputable section

namespace Trajectory

open Idealize.ShloMosaic

/-- The logit of choice `a` at state `x`, of the network with weights `W1`, `W2` and biases `b1`, `b2`. -/
def logit (x : Fin 64 → EReal) (W1 : Fin 64 → Fin 64 → EReal) (b1 : Fin 64 → EReal) (W2 : Fin 64 → Fin 32 → EReal)
    (b2 : Fin 32 → EReal) (a : Fin 32) : EReal :=
  ∑ h, max (∑ d, x d * W1 d h + b1 h) 0 * W2 h a + b2 a

/-- The choice an action names. -/
def choice (a : BitVec 32) : Fin 32 := ⟨a.toNat % 32, Nat.mod_lt _ (by decide)⟩

/-- An action in range. -/
def InRange (a : BitVec 32) : Prop := a.toNat < 32

/-- An action in range is one of 32 words. -/
theorem InRange.named {a : BitVec 32} (h : InRange a) : ∃ k : Fin 32, a = BitVec.ofNat 32 k.val :=
  ⟨⟨a.toNat, h⟩, by rw [BitVec.ofNat_toNat, BitVec.setWidth_eq]⟩

/-- The step lies inside a trajectory of this length. -/
def Inside (t : ℕ) (len : BitVec 32) : Prop := (BitVec.ofNat 32 t).slt len = true

instance (t : ℕ) (len : BitVec 32) : Decidable (Inside t len) := inferInstanceAs (Decidable (_ = true))

/-- The forward log-probability of a step that counts, zero elsewhere. -/
def fwdTerm (t : ℕ) (len : BitVec 32) (l : Fin 32 → EReal) (a : BitVec 32) : EReal :=
  if Inside t len then logp l (choice a) else 0

/-- The backward log-probability of a step that counts, zero elsewhere; the last step does not count. -/
def bwdTerm (t : ℕ) (len : BitVec 32) (l : Fin 32 → EReal) (a : BitVec 32) : EReal :=
  if Inside t len ∧ BitVec.ofNat 32 t ≠ len - 1#32 then logp l (choice a) else 0

end Trajectory

end
-- ==== Proof.StepAt.lean ====
/-
  One step of the kernel's body read at a trajectory: it adds the log-probability of the choice the action
  names, under the logits of that step, where the step counts.
-/
module

public import proofs.«01_k».proof.Proof.Step
public import proofs.«01_k».proof.Proof.Spec
public import Idealize.ShloMosaic.Lib.Pointwise

@[expose] public section

noncomputable section

namespace Trajectory

open Cert.KernelIdeal Cert.KernelIdeal.Gen Idealize.ShloMosaic

/-- A row of the 64×1024 logits. -/
theorem logits_at (s : Shared Ideal) (x : Vec Ideal S1x64x1024 .f32) (a : Fin 64) (b : Fin 1024) :
    logits s x (ix2 a b)
      = ∑ h : Fin 128, s.w2 (ix2 a h) * max (∑ d : Fin 64, s.w1 (ix2 h d) * x (ix3 0 d b) + s.b1 (ix2 h b)) 0 + s.b2 (ix2 a b) := by
  pointwise [logits]

/-- The 32 logits of the policy whose rows start at `o`, of trajectory `b`. -/
def half (o : ℕ) (ho : o + 32 ≤ 64) (l : FVec Ideal S64x1024 .f32) (b : Fin 1024) (k : Fin 32) : EReal :=
  l (ix2 ⟨o + k.val, by omega⟩ b)

theorem lse_at (o : ℕ) (ho : o + 32 ≤ 64) (h : S64x1024.Slices ![o, 0] S32x1024) (l : FVec Ideal S64x1024 .f32) (b : Fin 1024) :
    lse ![o, 0] h l (ix2 0 b) = Ideal.log (∑ k, Ideal.exp (half o ho l b k)) := by
  pointwise [lse, half]

theorem rows_at (lo : IVec S1x1024 32) (b : Fin 1024) :
    rows lo (ix2 0 b)
      = Scalar.select (IntOp.cmpi .slt (lo (ix2 0 b)) 0#32) (IntOp.addi (lo (ix2 0 b)) 8#32) (lo (ix2 0 b)) := by
  pointwise [rows]

theorem eight_at (o : ℕ) (ho : o + 8 ≤ 64) (h : S64x1024.Slices ![o, 0] S8x1024) (l : FVec Ideal S64x1024 .f32)
    (lo : IVec S1x1024 32) (b : Fin 1024) :
    eight ![o, 0] h l lo (ix2 0 b)
      = l (ix2 ⟨o + (rows lo (ix2 0 b)).toNat % 8, by have := Nat.mod_lt (rows lo (ix2 0 b)).toNat (y := 8) (by decide); omega⟩ b) := by
  pointwise [eight]

theorem fourth_at (hi : IVec S1x1024 32) (p0 p1 p2 p3 : FVec Ideal S1x1024 .f32) (b : Fin 1024) :
    fourth hi p0 p1 p2 p3 (ix2 0 b)
      = Scalar.select (IntOp.cmpi .eq (hi (ix2 0 b)) 3#32) (p3 (ix2 0 b))
          (Scalar.select (IntOp.cmpi .eq (hi (ix2 0 b)) 2#32) (p2 (ix2 0 b))
            (Scalar.select (IntOp.cmpi .eq (hi (ix2 0 b)) 1#32) (p1 (ix2 0 b)) (p0 (ix2 0 b)))) := by
  pointwise [fourth]

theorem low_at (a : Vec Ideal S1x1x1024 .i32) (b : Fin 1024) : low (F := Ideal) a (ix2 0 b) = IntOp.andi (a (ix3 0 0 b)) 7#32 := by
  pointwise [low, acts]

theorem high_at (a : Vec Ideal S1x1x1024 .i32) (b : Fin 1024) :
    high (F := Ideal) a (ix2 0 b) = IntOp.shrsi .vector (a (ix3 0 0 b)) 3#32 := by
  pointwise [high, acts]

/-- The low bits of an action in range name a row of eight. -/
theorem low_word : ∀ k : Fin 32,
    (Scalar.select (IntOp.cmpi .slt (IntOp.andi (BitVec.ofNat 32 k.val) 7#32) 0#32)
      (IntOp.addi (IntOp.andi (BitVec.ofNat 32 k.val) 7#32) 8#32) (IntOp.andi (BitVec.ofNat 32 k.val) 7#32)).toNat % 8
      = k.val % 8 := by
  decide

/-- The high bits of an action in range name one of four groups of eight. -/
theorem high_word : ∀ k : Fin 32,
    IntOp.shrsi .vector (BitVec.ofNat 32 k.val) 3#32 = BitVec.ofNat 32 (k.val / 8) := by
  decide

/-- The four groups of eight rows starting at `o`, the action's low bits choosing in each and its high bits
choosing between them: together, the logit the action names. -/
theorem picked (o : ℕ) (ho : o + 32 ≤ 64) (h0 : S64x1024.Slices ![o, 0] S8x1024) (h1 : S64x1024.Slices ![o + 8, 0] S8x1024)
    (h2 : S64x1024.Slices ![o + 16, 0] S8x1024) (h3 : S64x1024.Slices ![o + 24, 0] S8x1024)
    (l : FVec Ideal S64x1024 .f32) (a : Vec Ideal S1x1x1024 .i32) (b : Fin 1024) (hr : InRange (a (ix3 0 0 b))) :
    fourth (high (F := Ideal) a) (eight ![o, 0] h0 l (low (F := Ideal) a)) (eight ![o + 8, 0] h1 l (low (F := Ideal) a))
        (eight ![o + 16, 0] h2 l (low (F := Ideal) a)) (eight ![o + 24, 0] h3 l (low (F := Ideal) a)) (ix2 0 b)
      = half o ho l b (choice (a (ix3 0 0 b))) := by
  obtain ⟨k, hk⟩ := hr.named
  have hc : (choice (a (ix3 0 0 b))).val = k.val := by
    rw [hk]; simp only [choice, BitVec.toNat_ofNat]; have := k.isLt; omega
  have hrow : (rows (low (F := Ideal) a) (ix2 0 b)).toNat % 8 = k.val % 8 := by
    rw [rows_at, low_at, hk]; exact low_word k
  have key : ∀ (p q : ℕ) (hp : p < 64) (hq : q < 64), p = q → l (ix2 ⟨p, hp⟩ b) = l (ix2 ⟨q, hq⟩ b) := by
    intro p q hp hq e; subst e; rfl
  rw [fourth_at, eight_at o (by omega), eight_at (o + 8) (by omega), eight_at (o + 16) (by omega), eight_at (o + 24) (by omega),
    high_at, hk, high_word, half]
  have hq : k.val / 8 = 0 ∨ k.val / 8 = 1 ∨ k.val / 8 = 2 ∨ k.val / 8 = 3 := by have := k.isLt; omega
  rcases hq with e | e | e | e <;> rw [e] <;> simp [Scalar.select, IntOp.cmpi] <;> apply key <;> rw [hrow] <;>
    simp only [← hk, hc] <;> omega

end Trajectory

end
-- ==== Proof.PointAt.lean ====
/-
  A grid point read at a trajectory: the sum, over its 32 steps, of each step's log-probability.
-/
module

public import proofs.«01_k».proof.Proof.StepAt

@[expose] public section

noncomputable section

namespace Trajectory

open Cert.KernelIdeal Cert.KernelIdeal.Gen Idealize.ShloMosaic

/-- The number of a step, from the number of its grid point. -/
theorem stepNo_eq (s : Shared Ideal) (n j : ℕ) (hs : s.point = BitVec.ofNat 32 n) :
    stepNo s j = BitVec.ofNat 32 (32 * n + j) := by
  unfold stepNo Scalar.addi Scalar.muli IntOp.addi IntOp.muli
  rw [hs, Nat.mul_comm 32 n, BitVec.ofNat_add, BitVec.ofNat_mul]

theorem valid_at (s : Shared Ideal) (j : ℕ) (b : Fin 1024) :
    valid s j (ix2 0 b) = IntOp.cmpi .slt (stepNo s j) (s.len (ix2 0 b)) := by
  pointwise [valid]

theorem validBack_at (s : Shared Ideal) (j : ℕ) (b : Fin 1024) :
    validBack s j (ix2 0 b)
      = IntOp.andi (IntOp.cmpi .slt (stepNo s j) (s.len (ix2 0 b)))
          (IntOp.cmpi .ne (stepNo s j) (IntOp.subi (s.len (ix2 0 b)) 1#32)) := by
  pointwise [validBack, valid]

/-- A selection by a signed comparison. -/
theorem choose_one (t len : BitVec 32) (x : EReal) :
    Scalar.select (IntOp.cmpi .slt t len) x 0 = if t.slt len = true then x else 0 := by
  unfold Scalar.select
  rw [show IntOp.cmpi .slt t len = BitVec.ofBool (t.slt len) from rfl]
  generalize t.slt len = p
  cases p <;> simp

/-- A selection by a signed comparison together with an inequality. -/
theorem choose_two (t len u : BitVec 32) (x : EReal) :
    Scalar.select (IntOp.andi (IntOp.cmpi .slt t len) (IntOp.cmpi .ne t u)) x 0
      = if t.slt len = true ∧ t ≠ u then x else 0 := by
  unfold Scalar.select
  rw [show IntOp.cmpi .slt t len = BitVec.ofBool (t.slt len) from rfl,
    show IntOp.cmpi .ne t u = BitVec.ofBool (t != u) from rfl,
    show IntOp.andi (BitVec.ofBool (t.slt len)) (BitVec.ofBool (t != u))
      = BitVec.ofBool (t.slt len) &&& BitVec.ofBool (t != u) from rfl]
  generalize t.slt len = p
  by_cases e : t = u
  · subst e; cases p <;> simp
  · have : (t != u) = true := by simpa using e
    rw [this]; cases p <;> simp [e]

/-- A step's addend to the forward row is the reference's term. -/
theorem addFwd_at (s : Shared Ideal) (n j : ℕ) (hs : s.point = BitVec.ofNat 32 n) (x : Vec Ideal S1x64x1024 .f32)
    (a : Vec Ideal S1x1x1024 .i32) (b : Fin 1024) (hr : InRange (a (ix3 0 0 b))) :
    addFwd s j x a (ix2 0 b)
      = fwdTerm (32 * n + j) (s.len (ix2 0 b)) (half 0 (by decide) (logits s x) b) (a (ix3 0 0 b)) := by
  have hp := picked 0 (by decide) slices_S64x1024_o0_0_S8x1024 slices_S64x1024_o8_0_S8x1024
    slices_S64x1024_o16_0_S8x1024 slices_S64x1024_o24_0_S8x1024 (logits s x) a b hr
  have hl := lse_at 0 (by decide) slices_S64x1024_o0_0_S32x1024 (logits s x) b
  have hv := valid_at s j b
  unfold addFwd
  generalize valid s j = v at *
  generalize hf : fourth (high (F := Ideal) a) _ _ _ _ = p
  replace hp := (congrFun hf.symm _).trans hp
  generalize lse (F := Ideal) _ _ _ = q at *
  pointwise
  rw [hv, hp, hl, stepNo_eq s n j hs]
  exact choose_one _ _ _

/-- A step's addend to the backward row is the reference's term. -/
theorem addBwd_at (s : Shared Ideal) (n j : ℕ) (hs : s.point = BitVec.ofNat 32 n) (x : Vec Ideal S1x64x1024 .f32)
    (a : Vec Ideal S1x1x1024 .i32) (b : Fin 1024) (hr : InRange (a (ix3 0 0 b))) :
    addBwd s j x a (ix2 0 b)
      = bwdTerm (32 * n + j) (s.len (ix2 0 b)) (half 32 (by decide) (logits s x) b) (a (ix3 0 0 b)) := by
  have hp := picked 32 (by decide) slices_S64x1024_o32_0_S8x1024 slices_S64x1024_o40_0_S8x1024
    slices_S64x1024_o48_0_S8x1024 slices_S64x1024_o56_0_S8x1024 (logits s x) a b hr
  have hl := lse_at 32 (by decide) slices_S64x1024_o32_0_S32x1024 (logits s x) b
  have hv := validBack_at s j b
  unfold addBwd
  generalize validBack s j = v at *
  generalize hf : fourth (high (F := Ideal) a) _ _ _ _ = p
  replace hp := (congrFun hf.symm _).trans hp
  generalize lse (F := Ideal) _ _ _ = q at *
  pointwise
  rw [hv, hp, hl, stepNo_eq s n j hs]
  exact choose_two _ _ _ _

/-- The running row after `n` steps is the sum of the first `n` addends. -/
theorem running_at (f : Fin 32 → FVec Ideal S1x1024 .f32) (b : Fin 1024) :
    ∀ (n : ℕ) (h : n ≤ 32), running f n h (ix2 0 b) = ∑ j : Fin n, f ⟨j.val, by omega⟩ (ix2 0 b)
  | 0, _ => by
    rw [Fin.sum_univ_zero]
    show (Scalar.ofBits .f32 0x00000000#32 : Ideal .f32) = 0
    exact Ideal.ofBits_zero_f32
  | n + 1, h => by
    rw [Fin.sum_univ_castSucc]
    exact congrArg (· + f ⟨n, h⟩ (ix2 0 b)) (running_at f b n (Nat.le_of_succ_le h))

theorem slab_at (x : Vec Ideal S32x64x1024 .f32) (j : Fin 32) (d : Fin 64) (b : Fin 1024) :
    slab x j (ix3 0 d b) = x (ix3 j d b) := by
  unfold slab
  pointwise

theorem line_at (a : Vec Ideal S32x1x1024 .i32) (j : Fin 32) (b : Fin 1024) :
    line (F := Ideal) a j (ix3 0 0 b) = a (ix3 j 0 b) := by
  unfold line
  pointwise

end Trajectory

end
-- ==== Proof.Point.lean ====
/-
  What one grid point leaves in the two carried rows, and what the last one stores in the outputs.

  The first point stores its own addends; every later point adds them to what it finds; the last one
  also stores both rows and their difference less the clipped log reward.
-/
module

public import proofs.«01_k».proof.Proof.Step
public import Idealize.ShloMosaic.Lib.Pipeline.ValueKit.Basic

@[expose] public section

set_option maxRecDepth 65536

noncomputable section

namespace Trajectory

open Cert.KernelIdeal Cert.KernelIdeal.Gen Idealize.ShloMosaic Idealize.ShloMosaic.TcCoe Idealize.ShloMosaic.Tactic

variable {F : FTy → Type} [FloatOps F]

section
variable (c : Dev nD) (i : grid0.Coords) (arg1 : Memref sig .tc .vmem S32x64x1024 .f32) (harg1 : arg1.IsWhole) (arg2 : Memref sig .tc .vmem S32x1x1024 .i32) (harg2 : arg2.IsWhole) (arg3 : Memref sig .tc .vmem S1x1024 .i32) (harg3 : arg3.IsWhole) (arg4 : Memref sig .tc .vmem S1x1024 .f32) (harg4 : arg4.IsWhole) (arg5 : Memref sig .tc .vmem S128x64 .f32) (harg5 : arg5.IsWhole) (arg6 : Memref sig .tc .vmem S128x1024 .bf16) (harg6 : arg6.IsWhole) (arg7 : Memref sig .tc .vmem S64x128 .bf16) (harg7 : arg7.IsWhole) (arg8 : Memref sig .tc .vmem S64x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole)
    (x0 : Vec F S32x64x1024 .f32) (x1 : Vec F S32x1x1024 .i32) (x2 : Vec F S1x1024 .i32) (x3 : Vec F S1x1024 .f32) (x4 : Vec F S128x64 .f32) (x5 : Vec F S128x1024 .bf16) (x6 : Vec F S64x128 .bf16) (x7 : Vec F S64x1024 .f32)
    (xs0 : Vec F S1x1024 .f32) (xs1 : Vec F S1x1024 .f32)

/-- The shared inputs as the loads of the body see them. -/
def loaded : Shared F where
  w1 := View.ld (Val := Elt F) (e' := .f32) (arg5.view.read (Elt F) (harg5.unread x4)) (Rect.unit (s := S128x64) ![0, 0] S128x64.size inb_S128x64_S128x64_0_0)
  b1 := View.ld (Val := Elt F) (e' := .bf16) (arg6.view.read (Elt F) (harg6.unread x5)) (Rect.unit (s := S128x1024) ![0, 0] S128x1024.size inb_S128x1024_S128x1024_0_0)
  w2 := View.ld (Val := Elt F) (e' := .bf16) (arg7.view.read (Elt F) (harg7.unread x6)) (Rect.unit (s := S64x128) ![0, 0] S64x128.size inb_S64x128_S64x128_0_0)
  b2 := View.ld (Val := Elt F) (e' := .f32) (arg8.view.read (Elt F) (harg8.unread x7)) (Rect.unit (s := S64x1024) ![0, 0] S64x1024.size inb_S64x1024_S64x1024_0_0)
  len := View.ld (Val := Elt F) (e' := .i32) (arg3.view.read (Elt F) (harg3.unread x2)) (Rect.unit (s := S1x1024) ![0, 0] S1x1024.size inb_S1x1024_S1x1024_0_0)
  point := BitVec.ofNat 32 (i 0).val

/-- What a point of a trajectory block shares, named by its input blocks. -/
def given : Shared F where
  w1 := x4
  b1 := x5
  w2 := x6
  b2 := x7
  len := x2
  point := BitVec.ofNat 32 (i 0).val

/-- What the loads see is what the blocks hold. -/
theorem loaded_eq :
    loaded i arg3 harg3 arg5 harg5 arg6 harg6 arg7 harg7 arg8 harg8 x2 x4 x5 x6 x7 = given i x2 x4 x5 x6 x7 := by
  unfold loaded given
  rw [harg5.read_unread, harg6.read_unread, harg7.read_unread, harg8.read_unread, harg3.read_unread,
    View.ld_unit_lit (S := S128x64) _ _ (by decide), View.ld_unit_lit (S := S128x1024) _ _ (by decide),
    View.ld_unit_lit (S := S64x128) _ _ (by decide), View.ld_unit_lit (S := S64x1024) _ _ (by decide),
    View.ld_unit_lit (S := S1x1024) _ _ (by decide)]

/-- The one piece that fills a row: the whole row. -/
abbrev whole : Rect S1x1024 := Rect.unit (s := S1x1024) ![0, 0] S1x1024.size inb_S1x1024_S1x1024_0_0

/-- A row filled by one whole piece reads back as that piece. -/
theorem read_whole (v : View sig .tc .vmem S1x1024 .f32) (w : Vec F S1x1024 .f32) :
    v.read (Elt F) (v.writes (Elt F) v.junk [(⟨whole, w⟩ : View.Piece (Elt F) S1x1024 .f32)]) = w := by
  have hc : ∀ y, ∃ p ∈ [(⟨whole, w⟩ : View.Piece (Elt F) S1x1024 .f32)], y ∈ p.1.set := fun y =>
    ⟨⟨whole, w⟩, List.mem_singleton.mpr rfl,
      View.mem_set_unit_zero (S := S1x1024) (off := ![0, 0]) (View.eq_zero_of_forall (by decide)) inb_S1x1024_S1x1024_0_0 y⟩
  rw [View.read_writes_eq_canon v _ _ hc]
  exact View.canon_cons_unit_lit (S := S1x1024) _ w [] (by decide)

/-- A load of a whole row reads the row. -/
theorem ld_whole (a : Memref sig .tc .vmem S1x1024 .f32) (h : a.IsWhole) (w : Vec F S1x1024 .f32) :
    View.readAt (Elt F) a.view whole.toLoadRect (h.unread w) = w := by
  show View.ld (a.view.read (Elt F) (h.unread w)) whole = w
  rw [h.read_unread]
  exact View.ld_unit_lit (S := S1x1024) _ _ (by decide)

/-- A whole row stored and loaded again is the row. -/
theorem cov_whole (v : View sig .tc .vmem S1x1024 .f32) (w : Vec F S1x1024 .f32) :
    (v.readCov (Val := Elt F) [(⟨whole, shapeCast S1x1024 w shapeCasts_S1x1024_S1x1024⟩ : View.Piece (Elt F) S1x1024 .f32)]
      whole.toLoadRect : Vec F S1x1024 .f32) = w :=
  (View.readCov_unit_lit (S := S1x1024) v _ _ (by decide)).trans (shapeCast_self w _)

/-- What the first point leaves in the forward row. -/
theorem soutA_Fwd (hc0 : cond0_0 i) (hc1 : ¬cond0_1 i) (hc2 : ¬cond0_2 i) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7
      = pointFwd (given i x2 x4 x5 x6 x7) x0 x1 := by
  have h : (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.2.1
      = [⟨whole, shapeCast S1x1024
          (pointFwd (loaded i arg3 harg3 arg5 harg5 arg6 harg6 arg7 harg7 arg8 harg8 x2 x4 x5 x6 x7)
              (arg1.view.read (Elt F) (harg1.unread x0)) (arg2.view.read (Elt F) (harg2.unread x1)))
            shapeCasts_S1x1024_S1x1024⟩] := by
    sl_kernel_rfl
  unfold sout0_A_0
  rw [h, read_whole]
  refine (shapeCast_self _ _).trans ?_
  rw [loaded_eq, harg1.read_unread, harg2.read_unread]

/-- What the first point leaves in the backward row. -/
theorem soutA_Bwd (hc0 : cond0_0 i) (hc1 : ¬cond0_1 i) (hc2 : ¬cond0_2 i) :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7
      = pointBwd (given i x2 x4 x5 x6 x7) x0 x1 := by
  have h : (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.2.2.1
      = [⟨whole, shapeCast S1x1024
          (pointBwd (loaded i arg3 harg3 arg5 harg5 arg6 harg6 arg7 harg7 arg8 harg8 x2 x4 x5 x6 x7)
              (arg1.view.read (Elt F) (harg1.unread x0)) (arg2.view.read (Elt F) (harg2.unread x1)))
            shapeCasts_S1x1024_S1x1024⟩] := by
    sl_kernel_rfl
  unfold sout0_A_1
  rw [h, read_whole]
  refine (shapeCast_self _ _).trans ?_
  rw [loaded_eq, harg1.read_unread, harg2.read_unread]

/-- What a point between leaves in the forward row. -/
theorem soutB_Fwd (hc0 : ¬cond0_0 i) (hc1 : cond0_1 i) (hc2 : ¬cond0_2 i) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1
      = addf xs0 (pointFwd (given i x2 x4 x5 x6 x7) x0 x1) := by
  have h : (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.2.1
      = [⟨whole, shapeCast S1x1024
          (addf (View.readAt (Elt F) arg12.view whole.toLoadRect (harg12.unread xs0))
            (pointFwd (loaded i arg3 harg3 arg5 harg5 arg6 harg6 arg7 harg7 arg8 harg8 x2 x4 x5 x6 x7)
              (arg1.view.read (Elt F) (harg1.unread x0)) (arg2.view.read (Elt F) (harg2.unread x1))))
            shapeCasts_S1x1024_S1x1024⟩] := by
    sl_kernel_rfl
  unfold sout0_B_0
  rw [h, read_whole]
  refine (shapeCast_self _ _).trans ?_
  rw [loaded_eq, harg1.read_unread, harg2.read_unread, ld_whole]

/-- What a point between leaves in the backward row. -/
theorem soutB_Bwd (hc0 : ¬cond0_0 i) (hc1 : cond0_1 i) (hc2 : ¬cond0_2 i) :
    sout0_B_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1
      = addf xs1 (pointBwd (given i x2 x4 x5 x6 x7) x0 x1) := by
  have h : (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.2.2.1
      = [⟨whole, shapeCast S1x1024
          (addf (View.readAt (Elt F) arg13.view whole.toLoadRect (harg13.unread xs1))
            (pointBwd (loaded i arg3 harg3 arg5 harg5 arg6 harg6 arg7 harg7 arg8 harg8 x2 x4 x5 x6 x7)
              (arg1.view.read (Elt F) (harg1.unread x0)) (arg2.view.read (Elt F) (harg2.unread x1))))
            shapeCasts_S1x1024_S1x1024⟩] := by
    sl_kernel_rfl
  unfold sout0_B_1
  rw [h, read_whole]
  refine (shapeCast_self _ _).trans ?_
  rw [loaded_eq, harg1.read_unread, harg2.read_unread, ld_whole]

/-- What the last point leaves in the forward row. -/
theorem soutC_Fwd (hc0 : ¬cond0_0 i) (hc1 : cond0_1 i) (hc2 : cond0_2 i) :
    sout0_C_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1
      = addf xs0 (pointFwd (given i x2 x4 x5 x6 x7) x0 x1) := by
  have h : (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.2.1
      = [⟨whole, shapeCast S1x1024
          (addf (View.readAt (Elt F) arg12.view whole.toLoadRect (harg12.unread xs0))
            (pointFwd (loaded i arg3 harg3 arg5 harg5 arg6 harg6 arg7 harg7 arg8 harg8 x2 x4 x5 x6 x7)
              (arg1.view.read (Elt F) (harg1.unread x0)) (arg2.view.read (Elt F) (harg2.unread x1))))
            shapeCasts_S1x1024_S1x1024⟩] := by
    sl_kernel_rfl
  unfold sout0_C_0
  rw [h, read_whole]
  refine (shapeCast_self _ _).trans ?_
  rw [loaded_eq, harg1.read_unread, harg2.read_unread, ld_whole]

/-- What the last point leaves in the backward row. -/
theorem soutC_Bwd (hc0 : ¬cond0_0 i) (hc1 : cond0_1 i) (hc2 : cond0_2 i) :
    sout0_C_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1
      = addf xs1 (pointBwd (given i x2 x4 x5 x6 x7) x0 x1) := by
  have h : (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.2.2.1
      = [⟨whole, shapeCast S1x1024
          (addf (View.readAt (Elt F) arg13.view whole.toLoadRect (harg13.unread xs1))
            (pointBwd (loaded i arg3 harg3 arg5 harg5 arg6 harg6 arg7 harg7 arg8 harg8 x2 x4 x5 x6 x7)
              (arg1.view.read (Elt F) (harg1.unread x0)) (arg2.view.read (Elt F) (harg2.unread x1))))
            shapeCasts_S1x1024_S1x1024⟩] := by
    sl_kernel_rfl
  unfold sout0_C_1
  rw [h, read_whole]
  refine (shapeCast_self _ _).trans ?_
  rw [loaded_eq, harg1.read_unread, harg2.read_unread, ld_whole]

/-- What the last point stores in the forward output. -/
theorem outC_Fwd (hc0 : ¬cond0_0 i) (hc1 : cond0_1 i) (hc2 : cond0_2 i) :
    out0_C_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1
      = addf xs0 (pointFwd (given i x2 x4 x5 x6 x7) x0 x1) := by
  have h : (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1
      = [⟨whole, arg12.view.readCov [⟨whole, shapeCast S1x1024
          (addf (View.readAt (Elt F) arg12.view whole.toLoadRect (harg12.unread xs0))
            (pointFwd (loaded i arg3 harg3 arg5 harg5 arg6 harg6 arg7 harg7 arg8 harg8 x2 x4 x5 x6 x7)
              (arg1.view.read (Elt F) (harg1.unread x0)) (arg2.view.read (Elt F) (harg2.unread x1))))
            shapeCasts_S1x1024_S1x1024⟩] whole.toLoadRect⟩] := by
    sl_kernel_rfl
  unfold out0_C_8
  rw [h, read_whole]
  refine (cov_whole _ _).trans ?_
  rw [loaded_eq, harg1.read_unread, harg2.read_unread, ld_whole]

/-- What the last point stores in the backward output. -/
theorem outC_Bwd (hc0 : ¬cond0_0 i) (hc1 : cond0_1 i) (hc2 : cond0_2 i) :
    out0_C_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1
      = addf xs1 (pointBwd (given i x2 x4 x5 x6 x7) x0 x1) := by
  have h : (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1
      = [⟨whole, arg13.view.readCov [⟨whole, shapeCast S1x1024
          (addf (View.readAt (Elt F) arg13.view whole.toLoadRect (harg13.unread xs1))
            (pointBwd (loaded i arg3 harg3 arg5 harg5 arg6 harg6 arg7 harg7 arg8 harg8 x2 x4 x5 x6 x7)
              (arg1.view.read (Elt F) (harg1.unread x0)) (arg2.view.read (Elt F) (harg2.unread x1))))
            shapeCasts_S1x1024_S1x1024⟩] whole.toLoadRect⟩] := by
    sl_kernel_rfl
  unfold out0_C_9
  rw [h, read_whole]
  refine (cov_whole _ _).trans ?_
  rw [loaded_eq, harg1.read_unread, harg2.read_unread, ld_whole]

/-- What the last point stores in the score output. -/
theorem outC_score (hc0 : ¬cond0_0 i) (hc1 : cond0_1 i) (hc2 : cond0_2 i) :
    out0_C_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1
      = subf (subf (addf xs0 (pointFwd (given i x2 x4 x5 x6 x7) x0 x1))
            (addf xs1 (pointBwd (given i x2 x4 x5 x6 x7) x0 x1)))
          (maximumf x3 (broadcast S1x1024 (Scalar.ofBits .f32 0xC2C80000#32 : F .f32))) := by
  have h : (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.1
      = [⟨whole, subf (subf (arg12.view.readCov (Val := Elt F) [⟨whole, shapeCast S1x1024
          (addf (View.readAt (Elt F) arg12.view whole.toLoadRect (harg12.unread xs0))
            (pointFwd (loaded i arg3 harg3 arg5 harg5 arg6 harg6 arg7 harg7 arg8 harg8 x2 x4 x5 x6 x7)
              (arg1.view.read (Elt F) (harg1.unread x0)) (arg2.view.read (Elt F) (harg2.unread x1))))
            shapeCasts_S1x1024_S1x1024⟩] whole.toLoadRect : Vec F S1x1024 .f32) (arg13.view.readCov (Val := Elt F) [⟨whole, shapeCast S1x1024
          (addf (View.readAt (Elt F) arg13.view whole.toLoadRect (harg13.unread xs1))
            (pointBwd (loaded i arg3 harg3 arg5 harg5 arg6 harg6 arg7 harg7 arg8 harg8 x2 x4 x5 x6 x7)
              (arg1.view.read (Elt F) (harg1.unread x0)) (arg2.view.read (Elt F) (harg2.unread x1))))
            shapeCasts_S1x1024_S1x1024⟩] whole.toLoadRect : Vec F S1x1024 .f32))
          (maximumf (shapeCast S1x1024 (View.readAt (Elt F) arg4.view whole.toLoadRect (harg4.unread x3)) shapeCasts_S1x1024_S1x1024)
            (broadcast S1x1024 (Scalar.ofBits .f32 0xC2C80000#32 : F .f32)))⟩] := by
    sl_kernel_rfl
  unfold out0_C_10
  rw [h, read_whole, cov_whole, cov_whole, loaded_eq, harg1.read_unread, harg2.read_unread]
  rw [ld_whole, ld_whole, ld_whole]
  exact congrArg (fun r => subf _ (maximumf r _)) (shapeCast_self x3 _)

end

end Trajectory

end
-- ==== Proof.Fold.lean ====
/-
  The three outputs as a fold over the sixteen grid points.

  A carried row is, after a point, what that point adds, on top of what it held before; the last point copies
  both rows to the outputs.
-/
module

public import proofs.«01_k».proof.Proof.Point
public import proofs.«01_k».proof.Proof.Gen.KernelIdeal.Value

@[expose] public section

noncomputable section

namespace Trajectory

open Cert.KernelIdeal Cert.KernelIdeal.Gen Cert.KernelIdeal.Value Idealize.ShloMosaic

variable {F : FTy → Type} [FloatOps F]
variable (m : (ℓ : Loc nD τ sig) → Buf (Elt F) ℓ) (c : Dev nD)

/-- What the steps of the `n`-th grid point share. -/
def shared (n : ℕ) (h : n < cfg0.N) : Shared F :=
  given (grid0.coords ⟨n, h⟩) (iblk m c 2 ⟨n, h⟩) (iblk m c 4 ⟨n, h⟩) (iblk m c 5 ⟨n, h⟩) (iblk m c 6 ⟨n, h⟩)
    (iblk m c 7 ⟨n, h⟩)

/-- What the `n`-th grid point adds to the forward row. -/
def fwdOf (n : ℕ) (h : n < cfg0.N) : FVec F S1x1024 .f32 :=
  pointFwd (shared m c n h) (iblk m c 0 ⟨n, h⟩) (iblk m c 1 ⟨n, h⟩)

/-- What the `n`-th grid point adds to the backward row. -/
def bwdOf (n : ℕ) (h : n < cfg0.N) : FVec F S1x1024 .f32 :=
  pointBwd (shared m c n h) (iblk m c 0 ⟨n, h⟩) (iblk m c 1 ⟨n, h⟩)

/-- The addends of the points up to the `n`-th, summed in order. -/
def total (f : (n : ℕ) → n < cfg0.N → FVec F S1x1024 .f32) (n : ℕ) (h : 0 + n < cfg0.N) : FVec F S1x1024 .f32 :=
  Pipeline.accAt f (fun k hk acc => addf acc (f k hk)) 0 n h

/-- The first point leaves its own addends in the carried rows. -/
theorem first_carried (h : 0 < cfg0.N) (acc) :
    (stAt0 m c 0 h acc).2.2.2 = (fwdOf m c 0 h, bwdOf m c 0 h) := by
  have e := stAt0_A m c ⟨0, h⟩ acc rfl (by show ¬ 1 ≤ 0; omega) (by show ¬ 0 % 16 = 15; omega)
  refine (congrArg (fun r => r.2.2.2) e).trans ?_
  dsimp only
  rw [soutA_Fwd, soutA_Bwd]
  rfl

/-- Every later point adds to the carried rows. -/
theorem later_carried (n : ℕ) (h : n < cfg0.N) (h1 : 1 ≤ n) (acc) :
    (stAt0 m c n h acc).2.2.2 = (addf acc.2.2.2.1 (fwdOf m c n h), addf acc.2.2.2.2 (bwdOf m c n h)) := by
  have hn : n < 16 := lt_of_lt_of_eq h N_0
  by_cases h2 : n % 16 = 15
  · have e := stAt0_C m c ⟨n, h⟩ acc (by show ¬ n % 16 = 0; omega) h1 h2
    refine (congrArg (fun r => r.2.2.2) e).trans ?_
    dsimp only
    rw [soutC_Fwd, soutC_Bwd]
    rfl
  · have e := stAt0_B m c ⟨n, h⟩ acc (by show ¬ n % 16 = 0; omega) h1 h2
    refine (congrArg (fun r => r.2.2.2) e).trans ?_
    dsimp only
    rw [soutB_Fwd, soutB_Bwd]
    rfl

/-- After any point the carried rows hold the sums so far. -/
theorem carried (n : ℕ) (h : 0 + n < cfg0.N) :
    (Pipeline.accAt (fun n h => stAt0 m c n h junk0) (stAt0 m c) 0 n h).2.2.2
      = (total (fwdOf m c) n h, total (bwdOf m c) n h) := by
  induction n with
  | zero => exact first_carried m c h junk0
  | succ n ih =>
    have e := later_carried m c (0 + (n + 1)) h (by omega)
      (Pipeline.accAt (fun n h => stAt0 m c n h junk0) (stAt0 m c) 0 n (Nat.lt_of_succ_lt h))
    rw [ih (Nat.lt_of_succ_lt h)] at e
    exact e

theorem fifteen : 0 + 15 < cfg0.N := lt_of_lt_of_eq (by decide) N_0.symm

/-- What the last point leaves in the outputs. -/
theorem last_outputs (acc) :
    let f := addf acc.2.2.2.1 (fwdOf m c 15 fifteen)
    let b := addf acc.2.2.2.2 (bwdOf m c 15 fifteen)
    (stAt0 m c 15 fifteen acc).1 = f ∧ (stAt0 m c 15 fifteen acc).2.1 = b ∧ (stAt0 m c 15 fifteen acc).2.2.1
      = subf (subf f b) (maximumf (iblk m c 3 ⟨15, fifteen⟩)
          (broadcast S1x1024 (Scalar.ofBits .f32 0xC2C80000#32 : F .f32))) := by
  have e := stAt0_C m c ⟨15, fifteen⟩ acc (by show ¬ 15 % 16 = 0; omega) (by show 1 ≤ 15; omega) rfl
  refine ⟨(congrArg (fun r => r.1) e).trans ?_, (congrArg (fun r => r.2.1) e).trans ?_,
    (congrArg (fun r => r.2.2.1) e).trans ?_⟩ <;> dsimp only
  · rw [outC_Fwd]; rfl
  · rw [outC_Bwd]; rfl
  · rw [outC_score]; rfl

/-- The forward output is the sum of all points' addends. -/
theorem G8_total : G8 m c = total (fwdOf m c) 15 fifteen := by
  rw [G8_last]
  refine (last_outputs m c _).1.trans ?_
  rw [carried m c 14]
  rfl

/-- The backward output is the sum of all points' addends. -/
theorem G9_total : G9 m c = total (bwdOf m c) 15 fifteen := by
  rw [G9_last]
  refine (last_outputs m c _).2.1.trans ?_
  rw [carried m c 14]
  rfl

/-- The score is the forward output less the backward one less the clipped log reward. -/
theorem G10_total : G10 m c = subf (subf (total (fwdOf m c) 15 fifteen) (total (bwdOf m c) 15 fifteen))
    (maximumf (iblk m c 3 ⟨15, fifteen⟩) (broadcast S1x1024 (Scalar.ofBits .f32 0xC2C80000#32 : F .f32))) := by
  rw [G10_last]
  refine (last_outputs m c _).2.2.trans ?_
  rw [carried m c 14]
  rfl

end Trajectory

end
-- ==== Proof.RefLogp.lean ====
/-
  The reference's log-softmax read at an index: the log-probability of each choice at each step.
-/
module

public import proofs.«01_k».proof.Proof.Spec
public import proofs.«01_k».proof.Proof.Gen.ReferenceIdeal.Read
public import Idealize.ShloMosaic.Lib.Pointwise

@[expose] public section

noncomputable section

namespace Trajectory

open Cert.ReferenceIdeal Cert.ReferenceIdeal.Read Idealize.ShloMosaic

variable (x0 : Vec Ideal S512x1024x64 .f32) (W1 : Vec Ideal S64x64 .f32) (b1 : Vec Ideal S64 .f32)
  (W2 : Vec Ideal S64x32 .f32) (b2 : Vec Ideal S32 .f32) (acts : Vec Ideal S512x1024 .i32) (len : Vec Ideal S1024 .i32)

/-- The logits of trajectory `b` at step `t`. -/
def logitsAt (t : Fin 512) (b : Fin 1024) : Fin 32 → EReal :=
  logit (fun d => x0 (ix3 t b d)) (fun d h => W1 (ix2 d h)) (fun h => b1 (ix1 h)) (fun h a => W2 (ix2 h a)) (fun a => b2 (ix1 a))

theorem ref_logits (t : Fin 512) (b : Fin 1024) (a : Fin 32) :
    val_main_v22 (F := Ideal) x0 W1 b1 W2 b2 (ix3 t b a) = logitsAt x0 W1 b1 W2 b2 t b a := by
  pointwise [val_main_v22, val_main_v21, val_main_v20, val_main_v19, val_main_v18, val_main_v17, val_main_v16, val_main_v15,
    val_main_v14, val_main_call0_v0, val_main_call0_cst, logitsAt, logit]

/-- The pattern of minus infinity. -/
theorem bits_bot : Ideal.ofBits FTy.f32 4286578688#32 = ⊥ := by
  simp [Ideal.ofBits, Ideal.ieee]

/-- The maximum the reference shifts by. -/
theorem ref_max (t : Fin 512) (b : Fin 1024) :
    val_main_call1_v0 (F := Ideal) x0 W1 b1 W2 b2 (ix2 t b)
      = Finset.fold max ⊥ (logitsAt x0 W1 b1 W2 b2 t b) Finset.univ := by
  pointwise [val_main_call1_v0, ref_logits, val_main_call1_cst, bits_bot]

theorem max_fold_le (f : Fin 32 → EReal) (k : Fin 32) : f k ≤ Finset.fold max ⊥ f Finset.univ :=
  (Finset.le_fold_max _).mpr (Or.inr ⟨k, Finset.mem_univ k, le_refl _⟩)

theorem max_fold_mem (f : Fin 32 → EReal) : ∃ k, f k = Finset.fold max ⊥ f Finset.univ := by
  rcases (Finset.le_fold_max (s := Finset.univ) (f := f) (b := ⊥) (Finset.fold max ⊥ f Finset.univ)).mp (le_refl _) with h | ⟨k, _, h⟩
  · exact ⟨0, le_antisymm (max_fold_le f 0) (h.trans bot_le)⟩
  · exact ⟨k, le_antisymm (max_fold_le f k) h⟩

/-- The shifted logits. -/
theorem ref_shift (t : Fin 512) (b : Fin 1024) (a : Fin 32) :
    val_main_call1_v5 (F := Ideal) x0 W1 b1 W2 b2 (ix3 t b a)
      = logitsAt x0 W1 b1 W2 b2 t b a - Finset.fold max ⊥ (logitsAt x0 W1 b1 W2 b2 t b) Finset.univ := by
  have hi : idx_main_call1_v3 (idx_main_call1_v4 (ix3 t b a)) = ix2 t b := by
    funext k
    match k with
    | ⟨0, _⟩ => rfl
    | ⟨1, _⟩ => rfl
  rw [val_main_call1_v5_apply, val_main_call1_v4_apply, val_main_call1_v3_apply, val_main_call1_v2_apply,
    val_main_call1_v1_apply, val_main_call1_cst_0_apply, hi, ref_logits, ref_max, Ideal.subf_def, Ideal.maximumf_def,
    Ideal.ofBits_def, bits_bot, max_eq_right bot_le]

/-- The summed exponentials. -/
theorem ref_sum (t : Fin 512) (b : Fin 1024) :
    val_main_call1_v7 (F := Ideal) x0 W1 b1 W2 b2 (ix2 t b)
      = ∑ a, Ideal.exp (logitsAt x0 W1 b1 W2 b2 t b a - Finset.fold max ⊥ (logitsAt x0 W1 b1 W2 b2 t b) Finset.univ) := by
  have h5 := ref_shift x0 W1 b1 W2 b2 t b
  have h6 : ∀ a, val_main_call1_v6 (F := Ideal) x0 W1 b1 W2 b2 (ix3 t b a)
      = Ideal.exp (logitsAt x0 W1 b1 W2 b2 t b a - Finset.fold max ⊥ (logitsAt x0 W1 b1 W2 b2 t b) Finset.univ) := fun a => by
    unfold val_main_call1_v6
    generalize val_main_call1_v5 (F := Ideal) x0 W1 b1 W2 b2 = y at h5 ⊢
    pointwise [h5]
  unfold val_main_call1_v7
  generalize val_main_call1_v6 (F := Ideal) x0 W1 b1 W2 b2 = y at h6 ⊢
  pointwise [h6, val_main_call1_cst_1]

/-- The reference's log-softmax. -/
theorem ref_logp (t : Fin 512) (b : Fin 1024) (a : Fin 32) :
    val_main_v23 (F := Ideal) x0 W1 b1 W2 b2 (ix3 t b a) = logp (logitsAt x0 W1 b1 W2 b2 t b) a := by
  have h5 := ref_shift x0 W1 b1 W2 b2 t b a
  have h7 := ref_sum x0 W1 b1 W2 b2 t b
  unfold val_main_v23 val_main_call1_v10 val_main_call1_v9 val_main_call1_v8
  generalize val_main_call1_v7 (F := Ideal) x0 W1 b1 W2 b2 = y at h7 ⊢
  generalize val_main_call1_v5 (F := Ideal) x0 W1 b1 W2 b2 = z at h5 ⊢
  pointwise [h5, h7]
  exact logp_shift _ a _ (max_fold_le _) (max_fold_mem _)

end Trajectory

end
-- ==== Proof.Logits.lean ====
/-
  The kernel's 64 logits of a step are the two policies' 32 logits, one above the other: the second weight matrix
  is zero outside its two diagonal blocks.
-/
module

public import proofs.«01_k».proof.Proof.Blocks
public import proofs.«01_k».proof.Proof.PointAt
public import proofs.«01_k».proof.Proof.Fold
public import proofs.«01_k».proof.Proof.RefLogp

@[expose] public section

noncomputable section

namespace Trajectory

open Cert.KernelIdeal Cert.KernelIdeal.Gen Idealize.ShloMosaic Idealize.ShloMosaic.TcCoe

/-- A sum over 128 hidden units is the sum over each policy's 64. -/
theorem sum_split (f : Fin 128 → EReal) :
    ∑ h, f h = ∑ h : Fin 64, f ⟨h.val, by omega⟩ + ∑ h : Fin 64, f ⟨64 + h.val, by omega⟩ :=
  Fin.sum_univ_add (a := 64) (b := 64) f

/-- The logits whose first layer, second layer and biases are one policy's, the other policy's weights being zero:
the first half of the hidden units. -/
theorem lower (x : Fin 64 → EReal) (w1 : Fin 128 → Fin 64 → EReal) (b1 w2 : Fin 128 → EReal) (b2 : EReal)
    (W1 : Fin 64 → Fin 64 → EReal) (B1 : Fin 64 → EReal) (W2 : Fin 64 → Fin 32 → EReal) (B2 : Fin 32 → EReal) (a : Fin 32)
    (h1 : ∀ h d, w1 ⟨h.val, by omega⟩ d = W1 d h) (h2 : ∀ h : Fin 64, b1 ⟨h.val, by omega⟩ = B1 h)
    (h3 : ∀ h : Fin 64, w2 ⟨h.val, by omega⟩ = W2 h a) (h4 : ∀ h : Fin 64, w2 ⟨64 + h.val, by omega⟩ = 0) (h5 : b2 = B2 a) :
    ∑ h, w2 h * max (∑ d, w1 h d * x d + b1 h) 0 + b2 = logit x W1 B1 W2 B2 a := by
  rw [sum_split]
  simp only [h1, h2, h3, h4, h5, zero_mul, Finset.sum_const_zero, add_zero]
  unfold logit
  simp only [mul_comm]

/-- The same for the second half of the hidden units. -/
theorem upper (x : Fin 64 → EReal) (w1 : Fin 128 → Fin 64 → EReal) (b1 w2 : Fin 128 → EReal) (b2 : EReal)
    (W1 : Fin 64 → Fin 64 → EReal) (B1 : Fin 64 → EReal) (W2 : Fin 64 → Fin 32 → EReal) (B2 : Fin 32 → EReal) (a : Fin 32)
    (h1 : ∀ (h : Fin 64) d, w1 ⟨64 + h.val, by omega⟩ d = W1 d h) (h2 : ∀ h : Fin 64, b1 ⟨64 + h.val, by omega⟩ = B1 h)
    (h3 : ∀ h : Fin 64, w2 ⟨64 + h.val, by omega⟩ = W2 h a) (h4 : ∀ h : Fin 64, w2 ⟨h.val, by omega⟩ = 0) (h5 : b2 = B2 a) :
    ∑ h, w2 h * max (∑ d, w1 h d * x d + b1 h) 0 + b2 = logit x W1 B1 W2 B2 a := by
  rw [sum_split]
  simp only [h1, h2, h3, h4, h5, zero_mul, Finset.sum_const_zero, zero_add]
  unfold logit
  simp only [mul_comm]

/-- A step's first 32 logits are one policy's, where the first 64 hidden units and the first 32 rows are that policy's. -/
theorem half_low (s : Shared Ideal) (x : Vec Ideal S1x64x1024 .f32) (b : Fin 1024) (X : Fin 64 → EReal)
    (W1 : Fin 64 → Fin 64 → EReal) (B1 : Fin 64 → EReal) (W2 : Fin 64 → Fin 32 → EReal) (B2 : Fin 32 → EReal)
    (hx : ∀ d, x (ix3 0 d b) = X d) (h1 : ∀ h d : Fin 64, s.w1 (ix2 ⟨h.val, by omega⟩ d) = W1 d h)
    (h2 : ∀ h : Fin 64, s.b1 (ix2 ⟨h.val, by omega⟩ b) = B1 h)
    (h3 : ∀ (h : Fin 64) (a : Fin 32), s.w2 (ix2 ⟨a.val, by omega⟩ ⟨h.val, by omega⟩) = W2 h a)
    (h4 : ∀ (h : Fin 64) (a : Fin 32), s.w2 (ix2 ⟨a.val, by omega⟩ ⟨64 + h.val, by omega⟩) = (0 : EReal))
    (h5 : ∀ a : Fin 32, s.b2 (ix2 ⟨a.val, by omega⟩ b) = B2 a) :
    half 0 (by decide) (logits s x) b = logit X W1 B1 W2 B2 := by
  funext a
  unfold half
  have e : (⟨0 + a.val, by omega⟩ : Fin 64) = ⟨a.val, by omega⟩ := Fin.ext (Nat.zero_add _)
  rw [e]
  refine (logits_at s x _ b).trans ?_
  refine (Finset.sum_congr rfl fun h _ => ?_ : _ = _) |> fun e => (congrArg (· + _) e).trans
    (lower X (fun h d => s.w1 (ix2 h d)) (fun h => s.b1 (ix2 h b)) (fun h => s.w2 (ix2 ⟨a.val, by omega⟩ h)) _ W1 B1 W2 B2 a
      h1 h2 (fun h => h3 h a) (fun h => h4 h a) (h5 a))
  simp only [hx]

/-- A step's last 32 logits are the other policy's. -/
theorem half_high (s : Shared Ideal) (x : Vec Ideal S1x64x1024 .f32) (b : Fin 1024) (X : Fin 64 → EReal)
    (W1 : Fin 64 → Fin 64 → EReal) (B1 : Fin 64 → EReal) (W2 : Fin 64 → Fin 32 → EReal) (B2 : Fin 32 → EReal)
    (hx : ∀ d, x (ix3 0 d b) = X d) (h1 : ∀ h d : Fin 64, s.w1 (ix2 ⟨64 + h.val, by omega⟩ d) = W1 d h)
    (h2 : ∀ h : Fin 64, s.b1 (ix2 ⟨64 + h.val, by omega⟩ b) = B1 h)
    (h3 : ∀ (h : Fin 64) (a : Fin 32), s.w2 (ix2 ⟨32 + a.val, by omega⟩ ⟨64 + h.val, by omega⟩) = W2 h a)
    (h4 : ∀ (h : Fin 64) (a : Fin 32), s.w2 (ix2 ⟨32 + a.val, by omega⟩ ⟨h.val, by omega⟩) = (0 : EReal))
    (h5 : ∀ a : Fin 32, s.b2 (ix2 ⟨32 + a.val, by omega⟩ b) = B2 a) :
    half 32 (by decide) (logits s x) b = logit X W1 B1 W2 B2 := by
  funext a
  unfold half
  refine (logits_at s x _ b).trans ?_
  refine (Finset.sum_congr rfl fun h _ => ?_ : _ = _) |> fun e => (congrArg (· + _) e).trans
    (upper X (fun h d => s.w1 (ix2 h d)) (fun h => s.b1 (ix2 h b)) (fun h => s.w2 (ix2 ⟨32 + a.val, by omega⟩ h)) _ W1 B1 W2 B2 a
      h1 h2 (fun h => h3 h a) (fun h => h4 h a) (h5 a))
  simp only [hx]

variable (m : (ℓ : Loc nD τ sig) → Buf (Elt Ideal) ℓ) (c : Dev nD)

/-- The second weights that a grid point reads are the whole array. -/
theorem second_at (n : ℕ) (hn : n < cfg0.N) (a : Fin 64) (h : Fin 128) :
    (shared m c n hn).w2 (ix2 a h) = V m c main_v17 (ix2 a h) :=
  blk_w2 m c ⟨n, hn⟩ a h

/-- What the kernel's forward half holds at a step. -/
theorem half_fwd (n : ℕ) (hn : n < cfg0.N) (j : Fin 32) (T : Fin 512) (hT : T.val = 32 * n + j.val) (b : Fin 1024) :
    half 0 (by decide) (logits (shared m c n hn) (slab (iblk m c 0 ⟨n, hn⟩) j)) b
      = logitsAt (m (c.tc.loc main_arg0)) (m (c.tc.loc main_arg2)) (m (c.tc.loc main_arg3)) (m (c.tc.loc main_arg4))
          (m (c.tc.loc main_arg5)) T b := by
  unfold logitsAt
  refine half_low (shared m c n hn) (slab (iblk m c 0 ⟨n, hn⟩) j) b _ _ _ _ _ (fun d => ?_) (fun h d => ?_) (fun h => ?_) (fun h a => ?_)
    (fun h a => ?_) (fun a => ?_)
  · rw [slab_at, blk_states m c ⟨n, hn⟩ j d b T hT, V_states]
  · refine Eq.trans ?_ (V_w1_low m c h d)
    exact blk_w1 m c ⟨n, hn⟩ _ d
  · refine Eq.trans ?_ (V_b1_low m c h b)
    exact blk_b1 m c ⟨n, hn⟩ _ b
  · exact (second_at m c n hn _ _).trans (V_w2_low m c h a)
  · exact (second_at m c n hn _ _).trans (V_w2_zero_low m c h a)
  · refine Eq.trans ?_ (V_b2_low m c a b)
    exact blk_b2 m c ⟨n, hn⟩ _ b

/-- What the kernel's backward half holds at a step. -/
theorem half_bwd (n : ℕ) (hn : n < cfg0.N) (j : Fin 32) (T : Fin 512) (hT : T.val = 32 * n + j.val) (b : Fin 1024) :
    half 32 (by decide) (logits (shared m c n hn) (slab (iblk m c 0 ⟨n, hn⟩) j)) b
      = logitsAt (m (c.tc.loc main_arg0)) (m (c.tc.loc main_arg6)) (m (c.tc.loc main_arg7)) (m (c.tc.loc main_arg8))
          (m (c.tc.loc main_arg9)) T b := by
  unfold logitsAt
  refine half_high (shared m c n hn) (slab (iblk m c 0 ⟨n, hn⟩) j) b _ _ _ _ _ (fun d => ?_) (fun h d => ?_) (fun h => ?_) (fun h a => ?_)
    (fun h a => ?_) (fun a => ?_)
  · rw [slab_at, blk_states m c ⟨n, hn⟩ j d b T hT, V_states]
  · refine Eq.trans ?_ (V_w1_high m c h d)
    exact blk_w1 m c ⟨n, hn⟩ _ d
  · refine Eq.trans ?_ (V_b1_high m c h b)
    exact blk_b1 m c ⟨n, hn⟩ _ b
  · exact (second_at m c n hn _ _).trans (V_w2_high m c h a)
  · exact (second_at m c n hn _ _).trans (V_w2_zero_high m c h a)
  · refine Eq.trans ?_ (V_b2_high m c a b)
    exact blk_b2 m c ⟨n, hn⟩ _ b

end Trajectory

end
-- ==== Proof.RefTaken.lean ====
/-
  The action the reference gathers: for an action in range, the log-probability of the choice it names.
-/
module

public import proofs.«01_k».proof.Proof.RefLogp

@[expose] public section

noncomputable section

namespace Trajectory

open Cert.ReferenceIdeal Cert.ReferenceIdeal.Read Idealize.ShloMosaic

variable (x0 : Vec Ideal S512x1024x64 .f32) (W1 : Vec Ideal S64x64 .f32) (b1 : Vec Ideal S64 .f32)
  (W2 : Vec Ideal S64x32 .f32) (b2 : Vec Ideal S32 .f32) (acts : Vec Ideal S512x1024 .i32) (len : Vec Ideal S1024 .i32)

/-- A gather along the last axis, one index per pair of leading coordinates: the element that index names, read
signed and clamped. -/
theorem take_last {α : Type} (x : S512x1024x32.Idx → α) (idx : IVec S512x1024x1x1 32) (t : Fin 512) (b : Fin 1024) :
    Host.gather gather_S512x1024x32_S512x1024x1x1_S512x1024x1_n_2_01_01_2_3_111 x idx (ix3 t b 0)
      = x (ix3 t b ⟨min (idx (ix4 t b 0 0)).toInt.toNat 31, by omega⟩) := by
  unfold Host.gather
  congr 1
  funext a
  refine Fin.ext ?_
  set d := gather_S512x1024x32_S512x1024x1x1_S512x1024x1_n_2_01_01_2_3_111 with hd
  show d.start (ix3 t b 0) idx a + d.batchCoord (ix3 t b 0) a + d.offCoord (ix3 t b 0) a = _
  have hb0 : (0 : Fin 3) ∈ d.operandBatchingDims := List.mem_cons_self
  have hb1 : (1 : Fin 3) ∈ d.operandBatchingDims := List.mem_cons_of_mem _ (List.mem_singleton.mpr rfl)
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ hb0,
      GatherDims.offCoord_eq_zero _ _ _ (fun h => ((GatherDims.mem_sKept _ _).mp h).2 hb0)]
    simp only [Nat.zero_add, Nat.add_zero]
    unfold GatherDims.batchCoord
    rw [dif_pos hb0]
    rfl
  · rw [GatherDims.start_batching _ _ _ _ hb1,
      GatherDims.offCoord_eq_zero _ _ _ (fun h => ((GatherDims.mem_sKept _ _).mp h).2 hb1)]
    simp only [Nat.zero_add, Nat.add_zero]
    unfold GatherDims.batchCoord
    rw [dif_pos hb1]
    rfl
  · have hm : (2 : Fin 3) ∈ d.startIndexMap := List.mem_singleton.mpr rfl
    rw [GatherDims.batchCoord_eq_zero _ _ _ (fun h => by simp [hd, gather_S512x1024x32_S512x1024x1x1_S512x1024x1_n_2_01_01_2_3_111] at h),
      GatherDims.offCoord_eq_zero _ _ _ (fun h => ((GatherDims.mem_sKept _ _).mp h).1 (List.mem_singleton.mpr rfl))]
    simp only [Nat.add_zero]
    unfold GatherDims.start
    rw [dif_pos hm]
    have hsi : d.siIdx (ix3 t b 0) ⟨List.idxOf (2 : Fin 3) d.startIndexMap, List.idxOf_lt_length_iff.2 hm⟩ = ix4 t b 0 0 := by
      funext q; refine Fin.ext ?_
      match q with
      | ⟨0, _⟩ => rfl
      | ⟨1, _⟩ => rfl
      | ⟨2, _⟩ => rfl
      | ⟨3, _⟩ => rfl
    rw [hsi]
    rfl

/-- An action in range is not wrapped. -/
theorem wrap_in_range : ∀ k : Fin 32,
    Scalar.select (IntOp.cmpi .slt (BitVec.ofNat 32 k.val) 0#32) (IntOp.addi (BitVec.ofNat 32 k.val) 32#32)
      (BitVec.ofNat 32 k.val) = BitVec.ofNat 32 k.val := by
  decide

/-- An action in range passes the reference's range check. -/
theorem check_in_range : ∀ k : Fin 32,
    IntOp.andi (IntOp.andi (IntOp.cmpi .sge (BitVec.ofNat 32 k.val) 0#32) (IntOp.cmpi .sle (BitVec.ofNat 32 k.val) 31#32)) 1#1
      = 1#1 := by
  decide

/-- Clamping an action in range leaves the choice it names. -/
theorem clamp_in_range : ∀ k : Fin 32,
    min (BitVec.ofNat 32 k.val).toInt.toNat 31 = (BitVec.ofNat 32 k.val).toNat % 32 := by
  decide

/-- The start index the reference computes is the action. -/
theorem ref_index (t : Fin 512) (b : Fin 1024) (h : InRange (acts (ix2 t b))) :
    val_main_call2_v5 (F := Ideal) acts (ix4 t b 0 0) = acts (ix2 t b) := by
  obtain ⟨k, hk⟩ := h.named
  pointwise [val_main_call2_v5, val_main_call2_v4, val_main_call2_v3, val_main_call2_v2, val_main_call2_v1, val_main_call2_v0,
    val_main_v24, val_main_call2_c, val_main_call2_c_0]
  rw [hk]
  exact wrap_in_range k

/-- An action in range passes the check. -/
theorem ref_in (t : Fin 512) (b : Fin 1024) (h : InRange (acts (ix2 t b))) :
    val_main_call2_v12 (F := Ideal) acts (ix3 t b 0) = 1#1 := by
  obtain ⟨k, hk⟩ := h.named
  have h5 := ref_index acts t b h
  rw [hk] at h5
  pointwise [val_main_call2_v12, val_main_call2_v11, val_main_call2_v10, val_main_call2_v9, val_main_call2_v8, val_main_call2_v7,
    val_main_call2_v6, val_main_call2_c_1, val_main_call2_c_2, val_main_call2_c_3]
  rw [Finset.univ_unique, Finset.fold_singleton]
  show IntOp.andi (IntOp.andi (IntOp.cmpi .sge (val_main_call2_v5 (F := Ideal) acts (ix4 t b 0 0)) 0#32)
    (IntOp.cmpi .sle (val_main_call2_v5 (F := Ideal) acts (ix4 t b 0 0)) 31#32)) 1#1 = 1#1
  rw [h5]
  exact check_in_range k

/-- What the reference takes is the log-probability of the choice the action names. -/
theorem ref_taken (t : Fin 512) (b : Fin 1024) (h : InRange (acts (ix2 t b))) :
    val_main_v26 (F := Ideal) x0 W1 b1 W2 b2 acts (ix2 t b) = logp (logitsAt x0 W1 b1 W2 b2 t b) (choice (acts (ix2 t b))) := by
  obtain ⟨k, hk⟩ := h.named
  have h1 := ref_in acts t b h
  have key : ∀ w : BitVec 32, w = acts (ix2 t b) → (⟨min w.toInt.toNat 31, by omega⟩ : Fin 32) = choice (acts (ix2 t b)) := by
    rintro w rfl
    rw [hk]
    exact Fin.ext (clamp_in_range k)
  have h13 : val_main_call2_v13 (F := Ideal) x0 W1 b1 W2 b2 acts (ix3 t b 0)
      = logp (logitsAt x0 W1 b1 W2 b2 t b) (choice (acts (ix2 t b))) := by
    unfold val_main_call2_v13
    rw [take_last, ref_logp]
    exact congrArg (logp _) (key _ (ref_index acts t b h))
  rw [← h13]
  unfold val_main_v26 val_main_v25
  generalize val_main_call2_v13 (F := Ideal) x0 W1 b1 W2 b2 acts = y
  generalize val_main_call2_v12 (F := Ideal) acts = z at h1 ⊢
  pointwise [h1]

end Trajectory

end
-- ==== Proof.RefValue.lean ====
/-
  What the reference returns, read at an index: sums over the steps of each trajectory.
-/
module

public import proofs.«01_k».proof.Proof.RefTaken
public import Idealize.ShloMosaic.Lib.WordCmp

@[expose] public section

noncomputable section

namespace Trajectory

open Cert.ReferenceIdeal Cert.ReferenceIdeal.Read Idealize.ShloMosaic

variable (x0 : Vec Ideal S512x1024x64 .f32) (W1 : Vec Ideal S64x64 .f32) (b1 : Vec Ideal S64 .f32)
  (W2 : Vec Ideal S64x32 .f32) (b2 : Vec Ideal S32 .f32) (acts : Vec Ideal S512x1024 .i32) (len : Vec Ideal S1024 .i32)

/-- Both policies take the same log-probability of their own logits. -/
theorem back_same :
    val_main_v40 (F := Ideal) x0 W1 b1 W2 b2 acts = val_main_v26 (F := Ideal) x0 W1 b1 W2 b2 acts := rfl

/-- The reference's mask of the steps outside a trajectory. -/
theorem outside_at (t : Fin 512) (b : Fin 1024) :
    val_main_v5 (F := Ideal) len (ix2 t b) = IntOp.cmpi .sge (BitVec.ofNat 32 t.val) (len (ix1 b)) := by
  pointwise [val_main_v5, val_main_v4, val_main_v3, val_main_v2, val_main_v1, val_main_v0]

/-- The reference's mask of the steps that do not count backwards. -/
theorem outside_back_at (t : Fin 512) (b : Fin 1024) :
    val_main_v41 (F := Ideal) len (ix2 t b)
      = IntOp.ori (IntOp.cmpi .sge (BitVec.ofNat 32 t.val) (len (ix1 b)))
          (IntOp.andi (IntOp.cmpi .eq (BitVec.ofNat 32 t.val) (IntOp.subi (len (ix1 b)) 1#32))
            (~~~ IntOp.cmpi .sge (BitVec.ofNat 32 t.val) (len (ix1 b)))) := by
  pointwise [val_main_v41, val_main_v13, val_main_v12, val_main_v11, val_main_v10, val_main_v9, val_main_v8, val_main_v7,
    val_main_v6, val_main_v5, val_main_v4, val_main_v3, val_main_v2, val_main_v1, val_main_v0, val_main_c]

theorem select_outside (s n : BitVec 32) (p q : EReal) :
    Scalar.select (IntOp.cmpi .sge s n) p q = if s.slt n = true then q else p := by
  show (if BitVec.ofBool (n.sle s) = 1 then p else q) = _
  rw [BitVec.sle_eq_not_slt]
  cases s.slt n <;> rfl

theorem select_outside_back (s n e : BitVec 32) (p q : EReal) :
    Scalar.select (IntOp.ori (IntOp.cmpi .sge s n) (IntOp.andi (IntOp.cmpi .eq s e) (~~~ IntOp.cmpi .sge s n))) p q
      = if s.slt n = true ∧ s ≠ e then q else p := by
  show (if BitVec.ofBool (n.sle s) ||| (BitVec.ofBool (s == e) &&& ~~~ BitVec.ofBool (n.sle s)) = 1 then p else q) = _
  rw [BitVec.sle_eq_not_slt]
  by_cases he : s = e
  · rw [beq_iff_eq.mpr he]
    cases s.slt n <;> simp [he]
  · rw [beq_eq_false_iff_ne.mpr he]
    cases s.slt n <;> simp [he]

/-- The value at the steps that do not count. -/
theorem fill_at : id (constant (F := Ideal) S_ .f32 0#32) ix0 = (0 : EReal) := Ideal.ofBits_zero_f32

/-- A forward addend of the reference. -/
theorem ref_fwd (t : Fin 512) (b : Fin 1024) (h : InRange (acts (ix2 t b))) :
    val_main_v27 (F := Ideal) x0 W1 b1 W2 b2 acts len (ix2 t b)
      = fwdTerm t.val (len (ix1 b)) (logitsAt x0 W1 b1 W2 b2 t b) (acts (ix2 t b)) := by
  have h1 := ref_taken x0 W1 b1 W2 b2 acts t b h
  have h5 := outside_at len t b
  unfold val_main_v27
  generalize val_main_v26 (F := Ideal) x0 W1 b1 W2 b2 acts = y at h1 ⊢
  generalize val_main_v5 (F := Ideal) len = z at h5 ⊢
  pointwise [h1, h5, val_main_call3_v1, val_main_call3_v0, val_main_cst]
  rw [select_outside, fill_at]
  rfl

/-- A backward addend of the reference. -/
theorem ref_bwd (t : Fin 512) (b : Fin 1024) (h : InRange (acts (ix2 t b))) :
    val_main_v42 (F := Ideal) x0 W1 b1 W2 b2 acts len (ix2 t b)
      = bwdTerm t.val (len (ix1 b)) (logitsAt x0 W1 b1 W2 b2 t b) (acts (ix2 t b)) := by
  have h1 := ref_taken x0 W1 b1 W2 b2 acts t b h
  have h5 := outside_back_at len t b
  unfold val_main_v42
  rw [back_same]
  generalize val_main_v26 (F := Ideal) x0 W1 b1 W2 b2 acts = y at h1 ⊢
  generalize val_main_v41 (F := Ideal) len = z at h5 ⊢
  pointwise [h1, h5, val_main_call7_v1, val_main_call7_v0, val_main_cst_0]
  rw [select_outside_back, fill_at]
  rfl

/-- The forward total of trajectory `b`. -/
def fwdTotal (b : Fin 1024) : EReal :=
  ∑ t : Fin 512, fwdTerm t.val (len (ix1 b)) (logitsAt x0 W1 b1 W2 b2 t b) (acts (ix2 t b))

/-- The backward total of trajectory `b`. -/
def bwdTotal (b : Fin 1024) : EReal :=
  ∑ t : Fin 512, bwdTerm t.val (len (ix1 b)) (logitsAt x0 W1 b1 W2 b2 t b) (acts (ix2 t b))

theorem ref_fwd_total (h : ∀ t b, InRange (acts (ix2 t b))) (b : Fin 1024) :
    val_main_v43 (F := Ideal) x0 W1 b1 W2 b2 acts len (ix1 b) = fwdTotal x0 W1 b1 W2 b2 acts len b := by
  have h1 := fun t => ref_fwd x0 W1 b1 W2 b2 acts len t b (h t b)
  unfold val_main_v43
  generalize val_main_v27 (F := Ideal) x0 W1 b1 W2 b2 acts len = y at h1 ⊢
  pointwise [h1, val_main_cst_1, fwdTotal]

theorem ref_bwd_total (h : ∀ t b, InRange (acts (ix2 t b))) (b : Fin 1024) :
    val_main_v44 (F := Ideal) x0 W1 b1 W2 b2 acts len (ix1 b) = bwdTotal x0 W1 b1 W2 b2 acts len b := by
  have h1 := fun t => ref_bwd x0 W1 b1 W2 b2 acts len t b (h t b)
  unfold val_main_v44
  generalize val_main_v42 (F := Ideal) x0 W1 b1 W2 b2 acts len = y at h1 ⊢
  pointwise [h1, val_main_cst_2, bwdTotal]

/-- The reference's first result. -/
theorem ref_result_fwd (h : ∀ t b, InRange (acts (ix2 t b))) (b : Fin 1024) :
    val_main_v49 (F := Ideal) x0 W1 b1 W2 b2 acts len (ix2 0 b) = fwdTotal x0 W1 b1 W2 b2 acts len b := by
  have h1 := ref_fwd_total x0 W1 b1 W2 b2 acts len h b
  unfold val_main_v49
  generalize val_main_v43 (F := Ideal) x0 W1 b1 W2 b2 acts len = y at h1 ⊢
  pointwise [h1]

/-- The reference's second result. -/
theorem ref_result_bwd (h : ∀ t b, InRange (acts (ix2 t b))) (b : Fin 1024) :
    val_main_v50 (F := Ideal) x0 W1 b1 W2 b2 acts len (ix2 0 b) = bwdTotal x0 W1 b1 W2 b2 acts len b := by
  have h1 := ref_bwd_total x0 W1 b1 W2 b2 acts len h b
  unfold val_main_v50
  generalize val_main_v44 (F := Ideal) x0 W1 b1 W2 b2 acts len = y at h1 ⊢
  pointwise [h1]

/-- The reference's third result. -/
theorem ref_result_score (x1 : Vec Ideal S1024 .f32) (V1 : Vec Ideal S64x64 .f32) (c1 : Vec Ideal S64 .f32)
    (V2 : Vec Ideal S64x32 .f32) (c2 : Vec Ideal S32 .f32) (h : ∀ t b, InRange (acts (ix2 t b))) (b : Fin 1024) :
    val_main_v51 (F := Ideal) x0 x1 W1 b1 W2 b2 V1 c1 V2 c2 acts len (ix2 0 b)
      = fwdTotal x0 W1 b1 W2 b2 acts len b - bwdTotal x0 V1 c1 V2 c2 acts len b
        - max (x1 (ix1 b)) (Ideal.ofBits .f32 0xC2C80000#32) := by
  have h1 := ref_fwd_total x0 W1 b1 W2 b2 acts len h b
  have h2 := ref_bwd_total x0 V1 c1 V2 c2 acts len h b
  unfold val_main_v51 val_main_v48 val_main_v47
  generalize val_main_v43 (F := Ideal) x0 W1 b1 W2 b2 acts len = y at h1 ⊢
  generalize val_main_v44 (F := Ideal) x0 V1 c1 V2 c2 acts len = z at h2 ⊢
  pointwise [h1, h2, val_main_v46, val_main_v45, val_main_cst_3]

end Trajectory

end
-- ==== Proof.Whole.lean ====
/-
  The kernel's outputs read at a trajectory: the reference's totals over all 512 steps.
-/
module

public import proofs.«01_k».proof.Proof.Logits
public import proofs.«01_k».proof.Proof.RefValue

@[expose] public section

noncomputable section

namespace Trajectory

open Cert.KernelIdeal Cert.KernelIdeal.Gen Cert.KernelIdeal.Value Idealize.ShloMosaic Idealize.ShloMosaic.TcCoe

/-- The step numbered `j` of the grid point numbered `n`, among all steps. -/
def step (n : Fin 16) (j : Fin 32) : Fin 512 := ⟨32 * n.val + j.val, by omega⟩

/-- The sum over all steps is the sum over the grid points of the sums over their steps. -/
theorem sum_steps (f : Fin 512 → EReal) : ∑ n : Fin 16, ∑ j : Fin 32, f (step n j) = ∑ t, f t := by
  rw [← Fintype.sum_prod_type' (fun n j => f (step n j))]
  refine Fintype.sum_equiv (finProdFinEquiv (m := 16) (n := 32)) _ _ (fun p => congrArg f (Fin.ext ?_))
  show 32 * p.1.val + p.2.val = p.2.val + 32 * p.1.val
  omega

/-- The addends of all points up to one, summed at a trajectory. -/
theorem total_at (f : (n : ℕ) → n < cfg0.N → FVec Ideal S1x1024 .f32) (b : Fin 1024) :
    ∀ (n : ℕ) (h : 0 + n < cfg0.N), total f n h (ix2 0 b) = ∑ k : Fin (n + 1), f k.val (by omega) (ix2 0 b)
  | 0, h => by
    rw [Fin.sum_univ_one]
    rfl
  | n + 1, h => by
    have ih := total_at f b n (Nat.lt_of_succ_lt h)
    rw [Fin.sum_univ_castSucc]
    refine Eq.trans (b := total f n (Nat.lt_of_succ_lt h) (ix2 0 b) + f (0 + (n + 1)) h (ix2 0 b)) rfl ?_
    rw [ih]
    have e : ∀ (k : ℕ) (hk : k < cfg0.N), k = n + 1 → f k hk (ix2 0 b) = f (n + 1) (by omega) (ix2 0 b) := by
      intro k hk q; subst q; rfl
    exact congrArg _ (e _ h (Nat.zero_add _))

variable (m : (ℓ : Loc nD τ sig) → Buf (Elt Ideal) ℓ) (c : Dev nD)
variable (hr : ∀ t b, InRange (m (c.tc.loc main_arg10) (ix2 t b)))

/-- The word of the grid point's number. -/
theorem shared_point (n : ℕ) (hn : n < cfg0.N) : (shared m c n hn).point = BitVec.ofNat 32 n := by
  show BitVec.ofNat 32 (grid0.coords ⟨n, hn⟩ 0).val = _
  rw [coord]

theorem shared_len (n : ℕ) (hn : n < cfg0.N) (b : Fin 1024) :
    (shared m c n hn).len (ix2 0 b) = m (c.tc.loc main_arg11) (ix1 b) :=
  (blk_lengths m c ⟨n, hn⟩ b).trans (V_lengths m c b)

theorem line_word (n : ℕ) (hn : n < cfg0.N) (j : Fin 32) (b : Fin 1024) (T : Fin 512) (hT : T.val = 32 * n + j.val) :
    line (F := Ideal) (iblk m c 1 ⟨n, hn⟩) j (ix3 0 0 b) = m (c.tc.loc main_arg10) (ix2 T b) :=
  (line_at _ j b).trans ((blk_actions m c ⟨n, hn⟩ j b T hT).trans (V_actions m c T b))

include hr

/-- What a grid point adds to the forward row, at a trajectory. -/
theorem fwdOf_at (n : Fin 16) (hn : n.val < cfg0.N) (b : Fin 1024) :
    fwdOf m c n.val hn (ix2 0 b)
      = ∑ j : Fin 32, fwdTerm (step n j).val (m (c.tc.loc main_arg11) (ix1 b))
          (logitsAt (m (c.tc.loc main_arg0)) (m (c.tc.loc main_arg2)) (m (c.tc.loc main_arg3)) (m (c.tc.loc main_arg4))
            (m (c.tc.loc main_arg5)) (step n j) b) (m (c.tc.loc main_arg10) (ix2 (step n j) b)) := by
  unfold fwdOf pointFwd
  rw [running_at]
  refine Finset.sum_congr rfl fun j _ => ?_
  have hw := line_word m c n.val hn j b (step n j) rfl
  have h := addFwd_at (shared m c n.val hn) n.val j.val (shared_point m c n.val hn) (slab (iblk m c 0 ⟨n.val, hn⟩) j)
    (line (F := Ideal) (iblk m c 1 ⟨n.val, hn⟩) j) b (by rw [hw]; exact hr _ _)
  rw [hw, shared_len, half_fwd m c n.val hn j (step n j) rfl b] at h
  exact h

/-- What a grid point adds to the backward row, at a trajectory. -/
theorem bwdOf_at (n : Fin 16) (hn : n.val < cfg0.N) (b : Fin 1024) :
    bwdOf m c n.val hn (ix2 0 b)
      = ∑ j : Fin 32, bwdTerm (step n j).val (m (c.tc.loc main_arg11) (ix1 b))
          (logitsAt (m (c.tc.loc main_arg0)) (m (c.tc.loc main_arg6)) (m (c.tc.loc main_arg7)) (m (c.tc.loc main_arg8))
            (m (c.tc.loc main_arg9)) (step n j) b) (m (c.tc.loc main_arg10) (ix2 (step n j) b)) := by
  unfold bwdOf pointBwd
  rw [running_at]
  refine Finset.sum_congr rfl fun j _ => ?_
  have hw := line_word m c n.val hn j b (step n j) rfl
  have h := addBwd_at (shared m c n.val hn) n.val j.val (shared_point m c n.val hn) (slab (iblk m c 0 ⟨n.val, hn⟩) j)
    (line (F := Ideal) (iblk m c 1 ⟨n.val, hn⟩) j) b (by rw [hw]; exact hr _ _)
  rw [hw, shared_len, half_bwd m c n.val hn j (step n j) rfl b] at h
  exact h

theorem fwd_total (b : Fin 1024) :
    total (fwdOf m c) 15 fifteen (ix2 0 b)
      = fwdTotal (m (c.tc.loc main_arg0)) (m (c.tc.loc main_arg2)) (m (c.tc.loc main_arg3)) (m (c.tc.loc main_arg4))
          (m (c.tc.loc main_arg5)) (m (c.tc.loc main_arg10)) (m (c.tc.loc main_arg11)) b := by
  rw [total_at]
  refine (Finset.sum_congr rfl fun n _ => fwdOf_at m c hr n _ b).trans ?_
  exact sum_steps fun t => fwdTerm t.val (m (c.tc.loc main_arg11) (ix1 b))
          (logitsAt (m (c.tc.loc main_arg0)) (m (c.tc.loc main_arg2)) (m (c.tc.loc main_arg3)) (m (c.tc.loc main_arg4))
            (m (c.tc.loc main_arg5)) t b) (m (c.tc.loc main_arg10) (ix2 t b))

theorem bwd_total (b : Fin 1024) :
    total (bwdOf m c) 15 fifteen (ix2 0 b)
      = bwdTotal (m (c.tc.loc main_arg0)) (m (c.tc.loc main_arg6)) (m (c.tc.loc main_arg7)) (m (c.tc.loc main_arg8))
          (m (c.tc.loc main_arg9)) (m (c.tc.loc main_arg10)) (m (c.tc.loc main_arg11)) b := by
  rw [total_at]
  refine (Finset.sum_congr rfl fun n _ => bwdOf_at m c hr n _ b).trans ?_
  exact sum_steps fun t => bwdTerm t.val (m (c.tc.loc main_arg11) (ix1 b))
          (logitsAt (m (c.tc.loc main_arg0)) (m (c.tc.loc main_arg6)) (m (c.tc.loc main_arg7)) (m (c.tc.loc main_arg8))
            (m (c.tc.loc main_arg9)) t b) (m (c.tc.loc main_arg10) (ix2 t b))

open Cert.ReferenceIdeal.Read in
/-- The forward output is the reference's first result. -/
theorem same_fwd : G8 m c = val_main_v49 (F := Ideal) (m (c.tc.loc main_arg0)) (m (c.tc.loc main_arg2)) (m (c.tc.loc main_arg3))
    (m (c.tc.loc main_arg4)) (m (c.tc.loc main_arg5)) (m (c.tc.loc main_arg10)) (m (c.tc.loc main_arg11)) := by
  rw [G8_total]
  funext i
  obtain ⟨b, rfl⟩ : ∃ b : Fin 1024, i = ix2 0 b := ⟨i 1, by rw [eq_ix2 i]; congr 1; exact Subsingleton.elim _ _⟩
  rw [fwd_total m c hr b]
  exact (ref_result_fwd _ _ _ _ _ _ _ hr b).symm

open Cert.ReferenceIdeal.Read in
/-- The backward output is the reference's second result. -/
theorem same_bwd : G9 m c = val_main_v50 (F := Ideal) (m (c.tc.loc main_arg0)) (m (c.tc.loc main_arg6)) (m (c.tc.loc main_arg7))
    (m (c.tc.loc main_arg8)) (m (c.tc.loc main_arg9)) (m (c.tc.loc main_arg10)) (m (c.tc.loc main_arg11)) := by
  rw [G9_total]
  funext i
  obtain ⟨b, rfl⟩ : ∃ b : Fin 1024, i = ix2 0 b := ⟨i 1, by rw [eq_ix2 i]; congr 1; exact Subsingleton.elim _ _⟩
  rw [bwd_total m c hr b]
  exact (ref_result_bwd _ _ _ _ _ _ _ hr b).symm

open Cert.ReferenceIdeal.Read in
/-- The score is the reference's third result. -/
theorem same_score : G10 m c = val_main_v51 (F := Ideal) (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7))
    (m (c.tc.loc main_arg8)) (m (c.tc.loc main_arg9)) (m (c.tc.loc main_arg10)) (m (c.tc.loc main_arg11)) := by
  rw [G10_total]
  funext i
  obtain ⟨b, rfl⟩ : ∃ b : Fin 1024, i = ix2 0 b := ⟨i 1, by rw [eq_ix2 i]; congr 1; exact Subsingleton.elim _ _⟩
  have h1 := fwd_total m c hr b
  have h2 := bwd_total m c hr b
  have h3 : iblk m c 3 ⟨15, fifteen⟩ (ix2 0 b) = m (c.tc.loc main_arg1) (ix1 b) :=
    (blk_rewards m c ⟨15, fifteen⟩ b).trans (V_rewards m c b)
  rw [ref_result_score _ _ _ _ _ _ _ _ _ _ _ _ hr b, ← h1, ← h2, ← h3]
  rfl

end Trajectory

end
-- ==== Proof.Range.lean ====
/-
  The precondition: every action is one of 0 … 31.
-/
module

public import proofs.«01_k».proof.Defs
public import proofs.«01_k».proof.Proof.Spec
public import Idealize.ShloMosaic.Lib.Pointwise
public import Idealize.ShloMosaic.Lib.WordCmp

@[expose] public section

noncomputable section

namespace Trajectory

open Idealize.ShloMosaic

/-- The side condition of the precondition's function. -/
theorem pre_facts : Cert.Pre_actions_in_range.Facts where
  bcast_S_S512x1024 := by decide

/-- The two comparisons of the precondition hold of an action exactly when it is in range. -/
theorem in_range_of_word (x : BitVec 32) (h : IntOp.andi (IntOp.cmpi .sge x 0#32) (IntOp.cmpi .slt x 32#32) = 1#1) : InRange x := by
  have e := Idealize.ShloMosaic.WordCmp.andi_sge_zero_slt_ofNat (w := 32) (k := 32) (by decide) x
  rw [e] at h
  unfold InRange
  by_contra hn
  rw [decide_eq_false hn] at h
  exact absurd h (by decide)

/-- Under the precondition every action is in range. -/
theorem in_range [hp : Cert.Pre_actions_in_range.Facts]
    (m : (ℓ : Loc Cert.KernelIdeal.nD Cert.KernelIdeal.τ Cert.KernelIdeal.sig) → Buf (Elt Ideal) ℓ)
    (h : Cert.Pre_KernelIdeal_actions_in_range m) (c : Dev Cert.KernelIdeal.nD) (t : Fin 512) (b : Fin 1024) :
    InRange (m (c.tc.loc Cert.KernelIdeal.main_arg10) (ix2 t b)) := by
  have e := congrFun (h c) (ix2 t b)
  apply in_range_of_word
  rw [← e]
  unfold Cert.Pre_actions_in_range.fn
  pointwise

end Trajectory

end
-- ==== Proof.Claims.lean ====
/-
  The claims, one by one: the two kernels and the reference run and leave their arguments; the ideal kernel and the
  reference return the same three rows when every action is in range.
-/
module

public import proofs.«01_k».proof.Defs
public import proofs.«01_k».proof.Proof.Whole
public import proofs.«01_k».proof.Proof.Range
public import proofs.«01_k».proof.Proof.Gen.Kernel.Frame
public import proofs.«01_k».proof.Proof.Gen.ReferenceIdeal.Run
public import proofs.«01_k».proof.Proof.Gen.ReferenceIdeal.Read
public import Idealize.ShloMosaic.Lib.Claim

@[expose] public section

noncomputable section

namespace Trajectory

open Idealize.ShloMosaic Idealize.ShloMosaic.TcCoe Idealize.SL.Sem

/-- The kernel runs and leaves its arguments. -/
theorem kernel_runs : Cert.quiescent_Kernel := fun m ρ _ => Cert.Kernel.Gen.frame m ρ

/-- The ideal kernel runs and leaves its arguments. -/
theorem ideal_runs : Cert.quiescent_KernelIdeal := fun m ρ _ => Cert.KernelIdeal.Gen.frame m ρ

/-- The reference runs and leaves its arguments. -/
theorem reference_runs : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The ideal kernel returns what the reference returns. -/
theorem same_results [hp : Cert.Pre_actions_in_range.Facts] :
    Cert.algebraic_KernelIdeal_ReferenceIdeal_pre_actions_in_range := by
  intro m g m' g' hpre hagree
  have hr := fun c => in_range m hpre c
  refine ⟨fun c => Cert.KernelIdeal.Value.G8 m c, fun c => Cert.KernelIdeal.Value.G9 m c, fun c => Cert.KernelIdeal.Value.G10 m c,
    Cert.KernelIdeal.Value.run m g, ?_⟩
  refine (θ_run Cert.ReferenceIdeal.defs _ _).mono (fun r h c => ?_) (Cert.ReferenceIdeal.Value.run (F := Ideal) m' g')
  obtain ⟨e0, e1, e2, hargs⟩ := h c
  obtain ⟨a0, a1, a2, a3, a4, a5, a6, a7, a8, a9, a10, a11⟩ := hagree c
  refine ⟨e0.trans ?_, e1.trans ?_, e2.trans ?_, hargs⟩
  · refine (Cert.ReferenceIdeal.Read.val_main_v49_eq m' c).trans ?_
    rw [a0, a2, a3, a4, a5, a10, a11]
    exact (same_fwd m c (hr c)).symm
  · refine (Cert.ReferenceIdeal.Read.val_main_v50_eq m' c).trans ?_
    rw [a0, a6, a7, a8, a9, a10, a11]
    exact (same_bwd m c (hr c)).symm
  · refine (Cert.ReferenceIdeal.Read.val_main_v51_eq m' c).trans ?_
    rw [a0, a1, a2, a3, a4, a5, a6, a7, a8, a9, a10, a11]
    exact (same_score m c (hr c)).symm

end Trajectory

end
-- ==== Proof.lean ====
/-
  The certificate's claim, assembled: the facts that the programs and the precondition state, the frames, that the
  ideal kernel is the kernel's, and that the ideal kernel and the reference return the same three rows.
-/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Trajectory.pre_facts,
    Trajectory.kernel_runs, Trajectory.ideal_runs, fun m ρ _ => Trajectory.ideal_runs m ρ trivial,
    Trajectory.reference_runs, fun m ρ _ => Trajectory.reference_runs m ρ trivial, trivial,
    haveI := Trajectory.pre_facts
    Trajectory.same_results⟩

end Cert.Proof

end
